-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_ids_in_range [hPre_finite_inputs_ids_in_range : Cert.Pre_finite_inputs_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ids_in_range [hPre_finite_inputs_ids_in_range : Cert.Pre_finite_inputs_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs_ids_in_range [hKernelIdeal : Cert.KernelIdeal.Facts] [hPre_finite_inputs_ids_in_range : Cert.Pre_finite_inputs_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs_ids_in_range [hReferenceIdeal : Cert.ReferenceIdeal.Facts] [hPre_finite_inputs_ids_in_range : Cert.Pre_finite_inputs_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22)
      ∧ r.2.mem ((c.tc : Thread Cert.Kernel3.nD Cert.Kernel3.τ).loc Cert.Kernel3.main_arg23) = m ((c.tc : Thread Cert.Kernel3.nD Cert.Kernel3.τ).loc Cert.Kernel3.main_arg23)
      ∧ r.2.mem ((c.tc : Thread Cert.Kernel3.nD Cert.Kernel3.τ).loc Cert.Kernel3.main_arg24) = m ((c.tc : Thread Cert.Kernel3.nD Cert.Kernel3.τ).loc Cert.Kernel3.main_arg24)
      ∧ r.2.mem ((c.tc : Thread Cert.Kernel3.nD Cert.Kernel3.τ).loc Cert.Kernel3.main_arg25) = m ((c.tc : Thread Cert.Kernel3.nD Cert.Kernel3.τ).loc Cert.Kernel3.main_arg25)
      ∧ r.2.mem ((c.tc : Thread Cert.Kernel3.nD Cert.Kernel3.τ).loc Cert.Kernel3.main_arg26) = m ((c.tc : Thread Cert.Kernel3.nD Cert.Kernel3.τ).loc Cert.Kernel3.main_arg26)
      ∧ r.2.mem ((c.tc : Thread Cert.Kernel3.nD Cert.Kernel3.τ).loc Cert.Kernel3.main_arg27) = m ((c.tc : Thread Cert.Kernel3.nD Cert.Kernel3.τ).loc Cert.Kernel3.main_arg27)
      ∧ r.2.mem ((c.tc : Thread Cert.Kernel3.nD Cert.Kernel3.τ).loc Cert.Kernel3.main_arg28) = m ((c.tc : Thread Cert.Kernel3.nD Cert.Kernel3.τ).loc Cert.Kernel3.main_arg28)
      ∧ r.2.mem ((c.tc : Thread Cert.Kernel3.nD Cert.Kernel3.τ).loc Cert.Kernel3.main_arg29) = m ((c.tc : Thread Cert.Kernel3.nD Cert.Kernel3.τ).loc Cert.Kernel3.main_arg29))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
      ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
      ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
      ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
      ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
      ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
      ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28)
      ∧ r.2.mem ((c.tc : Thread Cert.Kernel3Ideal.nD Cert.Kernel3Ideal.τ).loc Cert.Kernel3Ideal.main_arg29) = m ((c.tc : Thread Cert.Kernel3Ideal.nD Cert.Kernel3Ideal.τ).loc Cert.Kernel3Ideal.main_arg29))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22)
      ∧ r.2.mem ((c.tc : Thread Cert.Reference3Ideal.nD Cert.Reference3Ideal.τ).loc Cert.Reference3Ideal.main_arg23) = m ((c.tc : Thread Cert.Reference3Ideal.nD Cert.Reference3Ideal.τ).loc Cert.Reference3Ideal.main_arg23)
      ∧ r.2.mem ((c.tc : Thread Cert.Reference3Ideal.nD Cert.Reference3Ideal.τ).loc Cert.Reference3Ideal.main_arg24) = m ((c.tc : Thread Cert.Reference3Ideal.nD Cert.Reference3Ideal.τ).loc Cert.Reference3Ideal.main_arg24)
      ∧ r.2.mem ((c.tc : Thread Cert.Reference3Ideal.nD Cert.Reference3Ideal.τ).loc Cert.Reference3Ideal.main_arg25) = m ((c.tc : Thread Cert.Reference3Ideal.nD Cert.Reference3Ideal.τ).loc Cert.Reference3Ideal.main_arg25)
      ∧ r.2.mem ((c.tc : Thread Cert.Reference3Ideal.nD Cert.Reference3Ideal.τ).loc Cert.Reference3Ideal.main_arg26) = m ((c.tc : Thread Cert.Reference3Ideal.nD Cert.Reference3Ideal.τ).loc Cert.Reference3Ideal.main_arg26)
      ∧ r.2.mem ((c.tc : Thread Cert.Reference3Ideal.nD Cert.Reference3Ideal.τ).loc Cert.Reference3Ideal.main_arg27) = m ((c.tc : Thread Cert.Reference3Ideal.nD Cert.Reference3Ideal.τ).loc Cert.Reference3Ideal.main_arg27)
      ∧ r.2.mem ((c.tc : Thread Cert.Reference3Ideal.nD Cert.Reference3Ideal.τ).loc Cert.Reference3Ideal.main_arg28) = m ((c.tc : Thread Cert.Reference3Ideal.nD Cert.Reference3Ideal.τ).loc Cert.Reference3Ideal.main_arg28)
      ∧ r.2.mem ((c.tc : Thread Cert.Reference3Ideal.nD Cert.Reference3Ideal.τ).loc Cert.Reference3Ideal.main_arg29) = m ((c.tc : Thread Cert.Reference3Ideal.nD Cert.Reference3Ideal.τ).loc Cert.Reference3Ideal.main_arg29))
      ∧ r.2.sem = fun _ => 0)

def preserves_Kernel_KernelIdeal : Prop :=
  True

def algebraic_KernelIdeal_ReferenceIdeal_pre_finite_inputs_ids_in_range [hKernelIdeal : Cert.KernelIdeal.Facts] [hReferenceIdeal : Cert.ReferenceIdeal.Facts] [hPre_finite_inputs_ids_in_range : Cert.Pre_finite_inputs_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)
      ∧ m' ((c.tc : Thread Cert.Reference3Ideal.nD Cert.Reference3Ideal.τ).loc Cert.Reference3Ideal.main_arg23) = m ((c.tc : Thread Cert.Kernel3Ideal.nD Cert.Kernel3Ideal.τ).loc Cert.Kernel3Ideal.main_arg23)
      ∧ m' ((c.tc : Thread Cert.Reference3Ideal.nD Cert.Reference3Ideal.τ).loc Cert.Reference3Ideal.main_arg24) = m ((c.tc : Thread Cert.Kernel3Ideal.nD Cert.Kernel3Ideal.τ).loc Cert.Kernel3Ideal.main_arg24)
      ∧ m' ((c.tc : Thread Cert.Reference3Ideal.nD Cert.Reference3Ideal.τ).loc Cert.Reference3Ideal.main_arg25) = m ((c.tc : Thread Cert.Kernel3Ideal.nD Cert.Kernel3Ideal.τ).loc Cert.Kernel3Ideal.main_arg25)
      ∧ m' ((c.tc : Thread Cert.Reference3Ideal.nD Cert.Reference3Ideal.τ).loc Cert.Reference3Ideal.main_arg26) = m ((c.tc : Thread Cert.Kernel3Ideal.nD Cert.Kernel3Ideal.τ).loc Cert.Kernel3Ideal.main_arg26)
      ∧ m' ((c.tc : Thread Cert.Reference3Ideal.nD Cert.Reference3Ideal.τ).loc Cert.Reference3Ideal.main_arg27) = m ((c.tc : Thread Cert.Kernel3Ideal.nD Cert.Kernel3Ideal.τ).loc Cert.Kernel3Ideal.main_arg27)
      ∧ m' ((c.tc : Thread Cert.Reference3Ideal.nD Cert.Reference3Ideal.τ).loc Cert.Reference3Ideal.main_arg28) = m ((c.tc : Thread Cert.Kernel3Ideal.nD Cert.Kernel3Ideal.τ).loc Cert.Kernel3Ideal.main_arg28)
      ∧ m' ((c.tc : Thread Cert.Reference3Ideal.nD Cert.Reference3Ideal.τ).loc Cert.Reference3Ideal.main_arg29) = m ((c.tc : Thread Cert.Kernel3Ideal.nD Cert.Kernel3Ideal.τ).loc Cert.Kernel3Ideal.main_arg29)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
          ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
          ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
          ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
          ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
          ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
          ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28)
          ∧ r.2.mem ((c.tc : Thread Cert.Kernel3Ideal.nD Cert.Kernel3Ideal.τ).loc Cert.Kernel3Ideal.main_arg29) = m ((c.tc : Thread Cert.Kernel3Ideal.nD Cert.Kernel3Ideal.τ).loc Cert.Kernel3Ideal.main_arg29))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v182) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_v183) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22)
          ∧ r.2.mem ((c.tc : Thread Cert.Reference3Ideal.nD Cert.Reference3Ideal.τ).loc Cert.Reference3Ideal.main_arg23) = m' ((c.tc : Thread Cert.Reference3Ideal.nD Cert.Reference3Ideal.τ).loc Cert.Reference3Ideal.main_arg23)
          ∧ r.2.mem ((c.tc : Thread Cert.Reference3Ideal.nD Cert.Reference3Ideal.τ).loc Cert.Reference3Ideal.main_arg24) = m' ((c.tc : Thread Cert.Reference3Ideal.nD Cert.Reference3Ideal.τ).loc Cert.Reference3Ideal.main_arg24)
          ∧ r.2.mem ((c.tc : Thread Cert.Reference3Ideal.nD Cert.Reference3Ideal.τ).loc Cert.Reference3Ideal.main_arg25) = m' ((c.tc : Thread Cert.Reference3Ideal.nD Cert.Reference3Ideal.τ).loc Cert.Reference3Ideal.main_arg25)
          ∧ r.2.mem ((c.tc : Thread Cert.Reference3Ideal.nD Cert.Reference3Ideal.τ).loc Cert.Reference3Ideal.main_arg26) = m' ((c.tc : Thread Cert.Reference3Ideal.nD Cert.Reference3Ideal.τ).loc Cert.Reference3Ideal.main_arg26)
          ∧ r.2.mem ((c.tc : Thread Cert.Reference3Ideal.nD Cert.Reference3Ideal.τ).loc Cert.Reference3Ideal.main_arg27) = m' ((c.tc : Thread Cert.Reference3Ideal.nD Cert.Reference3Ideal.τ).loc Cert.Reference3Ideal.main_arg27)
          ∧ r.2.mem ((c.tc : Thread Cert.Reference3Ideal.nD Cert.Reference3Ideal.τ).loc Cert.Reference3Ideal.main_arg28) = m' ((c.tc : Thread Cert.Reference3Ideal.nD Cert.Reference3Ideal.τ).loc Cert.Reference3Ideal.main_arg28)
          ∧ r.2.mem ((c.tc : Thread Cert.Reference3Ideal.nD Cert.Reference3Ideal.τ).loc Cert.Reference3Ideal.main_arg29) = m' ((c.tc : Thread Cert.Reference3Ideal.nD Cert.Reference3Ideal.τ).loc Cert.Reference3Ideal.main_arg29))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs_ids_in_range : Cert.Pre_finite_inputs_ids_in_range.Facts),
    quiescent_Kernel (hKernel := hKernel)
    ∧ quiescent_KernelIdeal (hKernelIdeal := hKernelIdeal)
    ∧ quiescent_KernelIdeal_pre_finite_inputs_ids_in_range (hKernelIdeal := hKernelIdeal) (hPre_finite_inputs_ids_in_range := hPre_finite_inputs_ids_in_range)
    ∧ quiescent_ReferenceIdeal (hReferenceIdeal := hReferenceIdeal)
    ∧ quiescent_ReferenceIdeal_pre_finite_inputs_ids_in_range (hReferenceIdeal := hReferenceIdeal) (hPre_finite_inputs_ids_in_range := hPre_finite_inputs_ids_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs_ids_in_range (hKernelIdeal := hKernelIdeal) (hReferenceIdeal := hReferenceIdeal) (hPre_finite_inputs_ids_in_range := hPre_finite_inputs_ids_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs_ids_in_range.lean ====
abbrev S4x2048x1024 : Shape := ⟨3, ![4, 2048, 1024]⟩
abbrev S4x2048 : Shape := ⟨2, ![4, 2048]⟩
abbrev S1024x2048 : Shape := ⟨2, ![1024, 2048]⟩
abbrev S24x1024 : Shape := ⟨2, ![24, 1024]⟩
abbrev S4096x1024 : Shape := ⟨2, ![4096, 1024]⟩
abbrev S1024x1024 : Shape := ⟨2, ![1024, 1024]⟩
abbrev S4x1x1024 : Shape := ⟨3, ![4, 1, 1024]⟩
abbrev S16x1024 : Shape := ⟨2, ![16, 1024]⟩
abbrev S_ : Shape := ⟨0, ![]⟩
abbrev S1x1024 : Shape := ⟨2, ![1, 1024]⟩
abbrev S1024 : Shape := ⟨1, ![1024]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  slices_S16x1024_S1x1024_13_0 : S16x1024.Slices ![13, 0] S1x1024
  shapeCasts_S1x1024_S1024 : S1x1024.ShapeCasts S1024
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S24x1024 : S_.BroadcastsInDim S24x1024 (![] : Fin 0 → Fin S24x1024.rank)
  reducesTo_S24x1024_S_d0_1 : S24x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x1x1024 : S_.BroadcastsInDim S4x1x1024 (![] : Fin 0 → Fin S4x1x1024.rank)
  reducesTo_S4x1x1024_S_d0_1_2 : S4x1x1024.ReducesTo [0, 1, 2] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg9 : FVec F S1024x1024 .bf16) (main_arg10 : FVec F S4x1x1024 .f32) (main_v28 : FVec F S1024 .f32) (main_v48 : IVec S_ 1) (main_v49 : FVec F S24x1024 .f32) (main_v50 : FVec F S24x1024 .f32) : IVec S_ 1 :=
  let main_v51 : IVec S24x1024 1 := cmpf .olt main_v49 main_v50
  let main_c_19 : IVec S_ 1 := constantI S_ 1 1#1
  let main_v52 : IVec S_ 1 := (fun x v => Host.reduce IntOp.andi x v reducesTo_S24x1024_S_d0_1 h_S_) main_v51 main_c_19
  let main_v53 : IVec S_ 1 := andi main_v48 main_v52
  let main_v54 : FVec F S1024x1024 .bf16 := Host.absf main_arg9
  let main_cst_20 : FVec F S_ .bf16 := constant S_ .bf16 0x7F80#16
  let main_v55 : FVec F S1024x1024 .bf16 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S4x1x1024 .f32 := Host.absf main_arg10
  let main_cst_22 : FVec F S_ .f32 := constant S_ .f32 0x7F800000#32
  let main_v60 : FVec F S4x1x1024 .f32 := broadcastInDim S4x1x1024 ![] bcast_S_S4x1x1024 main_cst_22
  let main_v61 : IVec S4x1x1024 1 := cmpf .olt main_v59 main_v60
  let main_c_23 : IVec S_ 1 := constantI S_ 1 1#1
  let main_v62 : IVec S_ 1 := (fun x v => Host.reduce IntOp.andi x v reducesTo_S4x1x1024_S_d0_1_2 h_S_) main_v61 main_c_23
  let main_v63 : IVec S_ 1 := andi main_v58 main_v62
  let main_v64 : FVec F S1024 .f32 := Host.absf main_v28
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg5 : FVec F S1024x2048 .bf16) (main_arg6 : FVec F S24x1024 .bf16) (main_arg7 : FVec F S4096x1024 .bf16) (main_arg8 : FVec F S24x1024 .f32) (main_arg9 : FVec F S1024x1024 .bf16) (main_arg10 : FVec F S4x1x1024 .f32) (main_v28 : FVec F S1024 .f32) (main_v33 : IVec S_ 1) : IVec S_ 1 :=
  let main_v34 : FVec F S1024x2048 .bf16 := Host.absf main_arg5
  let main_cst_12 : FVec F S_ .bf16 := constant S_ .bf16 0x7F80#16
  let main_v35 : FVec F S1024x2048 .bf16 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S24x1024 .bf16 := Host.absf main_arg6
  let main_cst_14 : FVec F S_ .bf16 := constant S_ .bf16 0x7F80#16
  let main_v40 : FVec F S24x1024 .bf16 := broadcastInDim S24x1024 ![] bcast_S_S24x1024 main_cst_14
  let main_v41 : IVec S24x1024 1 := cmpf .olt main_v39 main_v40
  let main_c_15 : IVec S_ 1 := constantI S_ 1 1#1
  let main_v42 : IVec S_ 1 := (fun x v => Host.reduce IntOp.andi x v reducesTo_S24x1024_S_d0_1 h_S_) main_v41 main_c_15
  let main_v43 : IVec S_ 1 := andi main_v38 main_v42
  let main_v44 : FVec F S4096x1024 .bf16 := Host.absf main_arg7
  let main_cst_16 : FVec F S_ .bf16 := constant S_ .bf16 0x7F80#16
  let main_v45 : FVec F S4096x1024 .bf16 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S24x1024 .f32 := Host.absf main_arg8
  let main_cst_18 : FVec F S_ .f32 := constant S_ .f32 0x7F800000#32
  let main_v50 : FVec F S24x1024 .f32 := broadcastInDim S24x1024 ![] bcast_S_S24x1024 main_cst_18
  fn_part3 (F := F) main_arg9 main_arg10 main_v28 main_v48 main_v49 main_v50

def fn_part1 {F : FTy → Type} [FloatOps F] (main_arg0 : FVec F S4x2048x1024 .f32) (main_arg3 : IVec S4x2048 32) (main_arg4 : IVec S4x2048 32) (main_arg5 : FVec F S1024x2048 .bf16) (main_arg6 : FVec F S24x1024 .bf16) (main_arg7 : FVec F S4096x1024 .bf16) (main_arg8 : FVec F S24x1024 .f32) (main_arg9 : FVec F S1024x1024 .bf16) (main_arg10 : FVec F S4x1x1024 .f32) (main_arg11 : FVec F S16x1024 .f32) (main_v12 : IVec S_ 1) (main_v14 : IVec S4x2048 1) (main_v15 : IVec S4x2048 32) : IVec S_ 1 :=
  let main_v16 : IVec S4x2048 1 := cmpi .slt main_arg3 main_v15
  let main_v17 : IVec S4x2048 1 := andi main_v14 main_v16
  let main_c_7 : IVec S_ 1 := constantI S_ 1 1#1
  let main_v18 : IVec S_ 1 := (fun x v => Host.reduce IntOp.andi x v reducesTo_S4x2048_S_d0_1 h_S_) main_v17 main_c_7
  let main_v19 : IVec S_ 1 := andi main_v12 main_v18
  let main_c_8 : IVec S_ 32 := constantI S_ 32 0#32
  let main_v20 : IVec S4x2048 32 := broadcastInDim S4x2048 ![] bcast_S_S4x2048 main_c_8
  let main_v21 : IVec S4x2048 1 := cmpi .sge main_arg4 main_v20
  let main_c_9 : IVec S_ 32 := constantI S_ 32 3#32
  let main_v22 : IVec S4x2048 32 := broadcastInDim S4x2048 ![] bcast_S_S4x2048 main_c_9
  let main_v23 : IVec S4x2048 1 := cmpi .slt main_arg4 main_v22
  let main_v24 : IVec S4x2048 1 := andi main_v21 main_v23
  let main_c_10 : IVec S_ 1 := constantI S_ 1 1#1
  let main_v25 : IVec S_ 1 := (fun x v => Host.reduce IntOp.andi x v reducesTo_S4x2048_S_d0_1 h_S_) main_v24 main_c_10
  let main_v26 : IVec S_ 1 := andi main_v19 main_v25
  let main_v27 : FVec F S1x1024 .f32 := (extractStridedSlice S1x1024 ![13, 0] · slices_S16x1024_S1x1024_13_0) main_arg11
  let main_v28 : FVec F S1024 .f32 := shapeCast S1024 main_v27 shapeCasts_S1x1024_S1024
  let main_v29 : FVec F S4x2048x1024 .f32 := Host.absf main_arg0
  let main_cst : FVec F S_ .f32 := constant S_ .f32 0x7F800000#32
  let main_v30 : FVec F S4x2048x1024 .f32 := broadcastInDim S4x2048x1024 ![] bcast_S_S4x2048x1024 main_cst
  let main_v31 : IVec S4x2048x1024 1 := cmpf .olt main_v29 main_v30
  let main_c_11 : IVec S_ 1 := constantI S_ 1 1#1
  let main_v32 : IVec S_ 1 := (fun x v => Host.reduce IntOp.andi x v reducesTo_S4x2048x1024_S_d0_1_2 h_S_) main_v31 main_c_11
  let main_v33 : IVec S_ 1 := andi main_v26 main_v32
  fn_part2 (F := F) main_arg5 main_arg6 main_arg7 main_arg8 main_arg9 main_arg10 main_v28 main_v33

def fn {F : FTy → Type} [FloatOps F] (main_arg0 : FVec F S4x2048x1024 .f32) (main_arg1 : IVec S4x2048 32) (main_arg2 : IVec S4x2048 32) (main_arg3 : IVec S4x2048 32) (main_arg4 : IVec S4x2048 32) (main_arg5 : FVec F S1024x2048 .bf16) (main_arg6 : FVec F S24x1024 .bf16) (main_arg7 : FVec F S4096x1024 .bf16) (main_arg8 : FVec F S24x1024 .f32) (main_arg9 : FVec F S1024x1024 .bf16) (main_arg10 : FVec F S4x1x1024 .f32) (main_arg11 : FVec F S16x1024 .f32) : IVec S_ 1 :=
  let main_c : IVec S_ 32 := constantI S_ 32 0#32
  let main_v0 : IVec S4x2048 32 := broadcastInDim S4x2048 ![] bcast_S_S4x2048 main_c
  let main_v1 : IVec S4x2048 1 := cmpi .sge main_arg1 main_v0
  let main_c_0 : IVec S_ 32 := constantI S_ 32 1000#32
  let main_v2 : IVec S4x2048 32 := broadcastInDim S4x2048 ![] bcast_S_S4x2048 main_c_0
  let main_v3 : IVec S4x2048 1 := cmpi .slt main_arg1 main_v2
  let main_v4 : IVec S4x2048 1 := andi main_v1 main_v3
  let main_c_1 : IVec S_ 1 := constantI S_ 1 1#1
  let main_v5 : IVec S_ 1 := (fun x v => Host.reduce IntOp.andi x v reducesTo_S4x2048_S_d0_1 h_S_) main_v4 main_c_1
  let main_c_2 : IVec S_ 32 := constantI S_ 32 0#32
  let main_v6 : IVec S4x2048 32 := broadcastInDim S4x2048 ![] bcast_S_S4x2048 main_c_2
  let main_v7 : IVec S4x2048 1 := cmpi .sge main_arg2 main_v6
  let main_c_3 : IVec S_ 32 := constantI S_ 32 5#32
  let main_v8 : IVec S4x2048 32 := broadcastInDim S4x2048 ![] bcast_S_S4x2048 main_c_3
  let main_v9 : IVec S4x2048 1 := cmpi .slt main_arg2 main_v8
  let main_v10 : IVec S4x2048 1 := andi main_v7 main_v9
  let main_c_4 : IVec S_ 1 := constantI S_ 1 1#1
  let main_v11 : IVec S_ 1 := (fun x v => Host.reduce IntOp.andi x v reducesTo_S4x2048_S_d0_1 h_S_) main_v10 main_c_4
  let main_v12 : IVec S_ 1 := andi main_v5 main_v11
  let main_c_5 : IVec S_ 32 := constantI S_ 32 0#32
  let main_v13 : IVec S4x2048 32 := broadcastInDim S4x2048 ![] bcast_S_S4x2048 main_c_5
  let main_v14 : IVec S4x2048 1 := cmpi .sge main_arg3 main_v13
  let main_c_6 : IVec S_ 32 := constantI S_ 32 5#32
  let main_v15 : IVec S4x2048 32 := broadcastInDim S4x2048 ![] bcast_S_S4x2048 main_c_6
  fn_part1 (F := F) main_arg0 main_arg3 main_arg4 main_arg5 main_arg6 main_arg7 main_arg8 main_arg9 main_arg10 main_arg11 main_v12 main_v14 main_v15
-- ==== Kernel.lean ====
abbrev S4x2048x1024 : Shape := ⟨3, ![4, 2048, 1024]⟩
abbrev S4x2048 : Shape := ⟨2, ![4, 2048]⟩
abbrev S1024x2048 : Shape := ⟨2, ![1024, 2048]⟩
abbrev S24x1024 : Shape := ⟨2, ![24, 1024]⟩
abbrev S4096x1024 : Shape := ⟨2, ![4096, 1024]⟩
abbrev S1024x1024 : Shape := ⟨2, ![1024, 1024]⟩
abbrev S4x1x1024 : Shape := ⟨3, ![4, 1, 1024]⟩
abbrev S16x1024 : Shape := ⟨2, ![16, 1024]⟩
abbrev S4x4x512 : Shape := ⟨3, ![4, 4, 512]⟩
abbrev S4x4x1x512 : Shape := ⟨4, ![4, 4, 1, 512]⟩
abbrev S4x4x4x512 : Shape := ⟨4, ![4, 4, 4, 512]⟩
abbrev S1x512x1024 : Shape := ⟨3, ![1, 512, 1024]⟩
abbrev S1x1x4x512 : Shape := ⟨4, ![1, 1, 4, 512]⟩
abbrev S1x1x1024 : Shape := ⟨3, ![1, 1, 1024]⟩
abbrev S512x1024 : Shape := ⟨2, ![512, 1024]⟩
abbrev S4x512 : Shape := ⟨2, ![4, 512]⟩
abbrev S1x512 : Shape := ⟨2, ![1, 512]⟩
abbrev S512 : Shape := ⟨1, ![512]⟩
abbrev S512x1 : Shape := ⟨2, ![512, 1]⟩
abbrev S1024x512 : Shape := ⟨2, ![1024, 512]⟩
abbrev S512x2048 : Shape := ⟨2, ![512, 2048]⟩
abbrev S8x512 : Shape := ⟨2, ![8, 512]⟩
abbrev S8x1024 : Shape := ⟨2, ![8, 1024]⟩
abbrev S24x512 : Shape := ⟨2, ![24, 512]⟩
abbrev S512x4096 : Shape := ⟨2, ![512, 4096]⟩
abbrev S1x1024 : Shape := ⟨2, ![1, 1024]⟩

abbrev nBuf : Space → Nat
  | .hbm => 22
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S4x2048, .i32⟩
  | .hbm, ⟨3, _⟩ => ⟨S4x2048, .i32⟩
  | .hbm, ⟨4, _⟩ => ⟨S4x2048, .i32⟩
  | .hbm, ⟨5, _⟩ => ⟨S1024x2048, .bf16⟩
  | .hbm, ⟨6, _⟩ => ⟨S24x1024, .bf16⟩
  | .hbm, ⟨7, _⟩ => ⟨S4096x1024, .bf16⟩
  | .hbm, ⟨8, _⟩ => ⟨S24x1024, .f32⟩
  | .hbm, ⟨9, _⟩ => ⟨S1024x1024, .bf16⟩
  | .hbm, ⟨10, _⟩ => ⟨S4x1x1024, .f32⟩
  | .hbm, ⟨11, _⟩ => ⟨S16x1024, .f32⟩
  | .hbm, ⟨12, _⟩ => ⟨S4x4x512, .i32⟩
  | .hbm, ⟨13, _⟩ => ⟨S4x4x512, .i32⟩
  | .hbm, ⟨14, _⟩ => ⟨S4x4x512, .i32⟩
  | .hbm, ⟨15, _⟩ => ⟨S4x4x512, .i32⟩
  | .hbm, ⟨16, _⟩ => ⟨S4x4x1x512, .i32⟩
  | .hbm, ⟨17, _⟩ => ⟨S4x4x1x512, .i32⟩
  | .hbm, ⟨18, _⟩ => ⟨S4x4x1x512, .i32⟩
  | .hbm, ⟨19, _⟩ => ⟨S4x4x1x512, .i32⟩
  | .hbm, ⟨20, _⟩ => ⟨S4x4x4x512, .i32⟩
  | .hbm, ⟨21, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x4x512, .i32⟩
  | .local _ .vmem, ⟨3, _⟩ => ⟨S1x1x4x512, .i32⟩
  | .local _ .vmem, ⟨4, _⟩ => ⟨S1024x2048, .bf16⟩
  | .local _ .vmem, ⟨5, _⟩ => ⟨S24x1024, .bf16⟩
  | .local _ .vmem, ⟨6, _⟩ => ⟨S4096x1024, .bf16⟩
  | .local _ .vmem, ⟨7, _⟩ => ⟨S24x1024, .f32⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S16x1024, .f32⟩
  | .local _ .vmem, ⟨12, _⟩ => ⟨S1x512x1024, .f32⟩
  | .local _ .vmem, ⟨13, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S24x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x2048x1024 : Shape := ⟨3, ![4, 2048, 1024]⟩
abbrev S4x2048 : Shape := ⟨2, ![4, 2048]⟩
abbrev S1024x2048 : Shape := ⟨2, ![1024, 2048]⟩
abbrev S24x1024 : Shape := ⟨2, ![24, 1024]⟩
abbrev S4096x1024 : Shape := ⟨2, ![4096, 1024]⟩
abbrev S1024x1024 : Shape := ⟨2, ![1024, 1024]⟩
abbrev S4x1x1024 : Shape := ⟨3, ![4, 1, 1024]⟩
abbrev S16x1024 : Shape := ⟨2, ![16, 1024]⟩
abbrev S_ : Shape := ⟨0, ![]⟩
abbrev S8x1024 : Shape := ⟨2, ![8, 1024]⟩
abbrev S4x2048x1 : Shape := ⟨3, ![4, 2048, 1]⟩
abbrev S4x2048x4096 : Shape := ⟨3, ![4, 2048, 4096]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 272
  | .vmem => 0
  | .smem => 0
  | _ => 0

abbrev hbmTy0_0 (i : Nat) : BufTy := match i % 128 with
  | 0 => ⟨S4x2048x1024, .f32⟩
  | 1 => ⟨S4x2048, .i32⟩
  | 2 => ⟨S4x2048, .i32⟩
  | 3 => ⟨S4x2048, .i32⟩
  | 4 => ⟨S4x2048, .i32⟩
  | 5 => ⟨S1024x2048, .bf16⟩
  | 6 => ⟨S24x1024, .bf16⟩
  | 7 => ⟨S4096x1024, .bf16⟩
  | 8 => ⟨S24x1024, .f32⟩
  | 9 => ⟨S1024x1024, .bf16⟩
  | 10 => ⟨S4x1x1024, .f32⟩
  | 11 => ⟨S16x1024, .f32⟩
  | 12 => ⟨S1024x1024, .bf16⟩
  | 13 => ⟨S1024x1024, .f32⟩
  | 14 => ⟨S_, .f32⟩
  | 15 => ⟨S1024x1024, .f32⟩
  | 16 => ⟨S1024x1024, .f32⟩
  | 17 => ⟨S1024x1024, .bf16⟩
  | 18 => ⟨S1024x1024, .f32⟩
  | 19 => ⟨S8x1024, .bf16⟩
  | 20 => ⟨S8x1024, .f32⟩
  | 21 => ⟨S_, .f32⟩
  | 22 => ⟨S8x1024, .f32⟩
  | 23 => ⟨S8x1024, .f32⟩
  | 24 => ⟨S8x1024, .bf16⟩
  | 25 => ⟨S8x1024, .f32⟩
  | 26 => ⟨S_, .f32⟩
  | 27 => ⟨S8x1024, .f32⟩
  | 28 => ⟨S8x1024, .f32⟩
  | 29 => ⟨S8x1024, .bf16⟩
  | 30 => ⟨S8x1024, .f32⟩
  | 31 => ⟨S_, .f32⟩
  | 32 => ⟨S8x1024, .f32⟩
  | 33 => ⟨S8x1024, .f32⟩
  | 34 => ⟨S_, .i32⟩
  | 35 => ⟨S4x2048, .i32⟩
  | 36 => ⟨S4x2048, .i1⟩
  | 37 => ⟨S_, .i32⟩
  | 38 => ⟨S4x2048, .i32⟩
  | 39 => ⟨S4x2048, .i32⟩
  | 40 => ⟨S4x2048, .i32⟩
  | 41 => ⟨S4x2048x1, .i32⟩
  | 42 => ⟨S4x2048x1024, .f32⟩
  | 43 => ⟨S_, .i32⟩
  | 44 => ⟨S4x2048, .i32⟩
  | 45 => ⟨S4x2048, .i1⟩
  | 46 => ⟨S_, .i32⟩
  | 47 => ⟨S4x2048, .i32⟩
  | 48 => ⟨S4x2048, .i32⟩
  | 49 => ⟨S4x2048, .i32⟩
  | 50 => ⟨S4x2048x1, .i32⟩
  | 51 => ⟨S4x2048x1024, .f32⟩
  | 52 => ⟨S_, .f32⟩
  | 53 => ⟨S4x2048, .f32⟩
  | 54 => ⟨S4x2048x1, .f32⟩
  | 55 => ⟨S_, .f32⟩
  | 56 => ⟨S4x2048x1, .f32⟩
  | 57 => ⟨S4x2048x1, .f32⟩
  | 58 => ⟨S4x2048x1024, .f32⟩
  | 59 => ⟨S4x2048x1024, .f32⟩
  | 60 => ⟨S4x2048x1024, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S4x2048x1024, .f32⟩
  | 68 => ⟨S4x2048x1024, .f32⟩
  | 69 => ⟨S_, .f32⟩
  | 70 => ⟨S4x2048x1, .f32⟩
  | 71 => ⟨S4x2048x1, .f32⟩
  | 72 => ⟨S4x2048x1, .f32⟩
  | 73 => ⟨S4x2048x1024, .f32⟩
  | 74 => ⟨S4x2048x1024, .f32⟩
  | 75 => ⟨S4x2048x1024, .f32⟩
  | 76 => ⟨S4x2048x1024, .f32⟩
  | 77 => ⟨S_, .i32⟩
  | 78 => ⟨S4x2048, .i32⟩
  | 79 => ⟨S4x2048, .i1⟩
  | 80 => ⟨S_, .i32⟩
  | 81 => ⟨S4x2048, .i32⟩
  | 82 => ⟨S4x2048, .i32⟩
  | 83 => ⟨S4x2048, .i32⟩
  | 84 => ⟨S4x2048x1, .i32⟩
  | 85 => ⟨S4x2048x1024, .f32⟩
  | 86 => ⟨S_, .f32⟩
  | 87 => ⟨S4x2048, .f32⟩
  | 88 => ⟨S4x2048x1, .f32⟩
  | 89 => ⟨S_, .f32⟩
  | 90 => ⟨S4x2048x1, .f32⟩
  | 91 => ⟨S4x2048x1, .f32⟩
  | 92 => ⟨S4x2048x1024, .f32⟩
  | 93 => ⟨S4x2048x1024, .f32⟩
  | 94 => ⟨S4x2048x1024, .f32⟩
  | 95 => ⟨S_, .f32⟩
  | 96 => ⟨S4x2048, .f32⟩
  | 97 => ⟨S4x2048x1, .f32⟩
  | 98 => ⟨S_, .f32⟩
  | 99 => ⟨S4x2048x1, .f32⟩
  | 100 => ⟨S4x2048x1, .f32⟩
  | 101 => ⟨S4x2048x1024, .f32⟩
  | 102 => ⟨S4x2048x1024, .f32⟩
  | 103 => ⟨S_, .f32⟩
  | 104 => ⟨S4x2048x1, .f32⟩
  | 105 => ⟨S4x2048x1, .f32⟩
  | 106 => ⟨S4x2048x1, .f32⟩
  | 107 => ⟨S4x2048x1024, .f32⟩
  | 108 => ⟨S4x2048x1024, .f32⟩
  | 109 => ⟨S4x2048x1024, .f32⟩
  | 110 => ⟨S_, .f32⟩
  | 111 => ⟨S4x2048x1024, .f32⟩
  | 112 => ⟨S4x2048x1024, .f32⟩
  | 113 => ⟨S_, .i32⟩
  | 114 => ⟨S4x2048, .i32⟩
  | 115 => ⟨S4x2048, .i1⟩
  | 116 => ⟨S_, .i32⟩
  | 117 => ⟨S4x2048, .i32⟩
  | 118 => ⟨S4x2048, .i32⟩
  | 119 => ⟨S4x2048, .i32⟩
  | 120 => ⟨S4x2048x1, .i32⟩
  | 121 => ⟨S4x2048x1024, .f32⟩
  | 122 => ⟨S_, .f32⟩
  | 123 => ⟨S4x2048, .f32⟩
  | 124 => ⟨S4x2048x1, .f32⟩
  | 125 => ⟨S_, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x1024, .f32⟩
  | 10 => ⟨S4x2048x1024, .f32⟩
  | 11 => ⟨S_, .f32⟩
  | 12 => ⟨S4x2048x1, .f32⟩
  | 13 => ⟨S4x2048x1, .f32⟩
  | 14 => ⟨S4x2048x1, .f32⟩
  | 15 => ⟨S4x2048x1024, .f32⟩
  | 16 => ⟨S4x2048x1024, .f32⟩
  | 17 => ⟨S4x2048x1024, .f32⟩
  | 18 => ⟨S_, .f32⟩
  | 19 => ⟨S4x2048x1024, .f32⟩
  | 20 => ⟨S4x2048x1024, .f32⟩
  | 21 => ⟨S_, .i32⟩
  | 22 => ⟨S4x2048, .i32⟩
  | 23 => ⟨S4x2048, .i1⟩
  | 24 => ⟨S_, .i32⟩
  | 25 => ⟨S4x2048, .i32⟩
  | 26 => ⟨S4x2048, .i32⟩
  | 27 => ⟨S4x2048, .i32⟩
  | 28 => ⟨S4x2048x1, .i32⟩
  | 29 => ⟨S4x2048x1024, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S4x2048x1024, .f32⟩
  | 37 => ⟨S4x2048x1024, .f32⟩
  | 38 => ⟨S4x2048x1024, .f32⟩
  | 39 => ⟨S_, .f32⟩
  | 40 => ⟨S4x2048, .f32⟩
  | 41 => ⟨S4x2048x1, .f32⟩
  | 42 => ⟨S_, .f32⟩
  | 43 => ⟨S4x2048x1, .f32⟩
  | 44 => ⟨S4x2048x1, .f32⟩
  | 45 => ⟨S4x2048x1024, .f32⟩
  | 46 => ⟨S4x2048x1024, .f32⟩
  | 47 => ⟨S_, .f32⟩
  | 48 => ⟨S4x2048x1, .f32⟩
  | 49 => ⟨S4x2048x1, .f32⟩
  | 50 => ⟨S4x2048x1, .f32⟩
  | 51 => ⟨S4x2048x1024, .f32⟩
  | 52 => ⟨S4x2048x1024, .f32⟩
  | 53 => ⟨S4x2048x1024, .f32⟩
  | 54 => ⟨S_, .f32⟩
  | 55 => ⟨S4x2048x1024, .f32⟩
  | 56 => ⟨S4x2048x1024, .f32⟩
  | 57 => ⟨S8x1024, .f32⟩
  | 58 => ⟨S_, .i32⟩
  | 59 => ⟨S4x2048, .i32⟩
  | 60 => ⟨S4x2048, .i1⟩
  | 61 => ⟨S_, .i32⟩
  | 62 => ⟨S4x2048, .i32⟩
  | 63 => ⟨S4x2048, .i32⟩
  | 64 => ⟨S4x2048, .i32⟩
  | 65 => ⟨S4x2048x1, .i32⟩
  | 66 => ⟨S4x2048x1024, .f32⟩
  | 67 => ⟨S8x1024, .f32⟩
  | 68 => ⟨S_, .i32⟩
  | 69 => ⟨S4x2048, .i32⟩
  | 70 => ⟨S4x2048, .i1⟩
  | 71 => ⟨S_, .i32⟩
  | 72 => ⟨S4x2048, .i32⟩
  | 73 => ⟨S4x2048, .i32⟩
  | 74 => ⟨S4x2048, .i32⟩
  | 75 => ⟨S4x2048x1, .i32⟩
  | 76 => ⟨S4x2048x1024, .f32⟩
  | 77 => ⟨S4x2048x1024, .f32⟩
  | 78 => ⟨S8x1024, .f32⟩
  | 79 => ⟨S_, .i32⟩
  | 80 => ⟨S4x2048, .i32⟩
  | 81 => ⟨S4x2048, .i1⟩
  | 82 => ⟨S_, .i32⟩
  | 83 => ⟨S4x2048, .i32⟩
  | 84 => ⟨S4x2048, .i32⟩
  | 85 => ⟨S4x2048, .i32⟩
  | 86 => ⟨S4x2048x1, .i32⟩
  | 87 => ⟨S4x2048x1024, .f32⟩
  | 88 => ⟨S4x2048x1024, .f32⟩
  | 89 => ⟨S4x2048x4096, .f32⟩
  | 90 => ⟨S4096x1024, .f32⟩
  | 91 => ⟨S4x2048x1024, .f32⟩
  | 92 => ⟨S4x2048x1024, .f32⟩
  | 93 => ⟨S4x2048x1024, .f32⟩
  | 94 => ⟨S4x2048x1024, .f32⟩
  | 95 => ⟨S4x2048x1024, .f32⟩
  | 96 => ⟨S4x2048x1024, .f32⟩
  | 97 => ⟨S_, .f32⟩
  | 98 => ⟨S4x2048x1024, .f32⟩
  | 99 => ⟨S4x2048x1024, .f32⟩
  | 100 => ⟨S_, .f32⟩
  | 101 => ⟨S4x2048x1024, .f32⟩
  | 102 => ⟨S4x2048x1024, .f32⟩
  | 103 => ⟨S4x2048x1024, .f32⟩
  | 104 => ⟨S1024x1024, .f32⟩
  | 105 => ⟨S4x2048x1024, .f32⟩
  | 106 => ⟨S1x1024, .f32⟩
  | 107 => ⟨S1024, .f32⟩
  | 108 => ⟨S1x1x1024, .f32⟩
  | 109 => ⟨S4x2048x1024, .f32⟩
  | 110 => ⟨S4x2048x1024, .f32⟩
  | 111 => ⟨S1x1024, .f32⟩
  | 112 => ⟨S1024, .f32⟩
  | 113 => ⟨S1x1024, .f32⟩
  | 114 => ⟨S1024, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S4x2048x1024, .f32⟩
  | 122 => ⟨S4x2048x1024, .f32⟩
  | 123 => ⟨S4x2048x1024, .f32⟩
  | 124 => ⟨S_, .f32⟩
  | 125 => ⟨S4x2048, .f32⟩
  | 126 => ⟨S4x2048x1, .f32⟩
  | 127 => ⟨S_, .f32⟩
  | _ => ⟨S4x2048x1024, .f32⟩

abbrev hbmTy0_2 (i : Nat) : BufTy := match i % 128 with
  | 0 => ⟨S4x2048x1, .f32⟩
  | 1 => ⟨S4x2048x1, .f32⟩
  | 2 => ⟨S4x2048x1024, .f32⟩
  | 3 => ⟨S4x2048x1024, .f32⟩
  | 4 => ⟨S_, .f32⟩
  | 5 => ⟨S4x2048x1, .f32⟩
  | 6 => ⟨S4x2048x1, .f32⟩
  | 7 => ⟨S4x2048x1, .f32⟩
  | 8 => ⟨S4x2048x1024, .f32⟩
  | 9 => ⟨S4x2048x1024, .f32⟩
  | 10 => ⟨S1x1x1024, .f32⟩
  | 11 => ⟨S4x2048x1024, .f32⟩
  | 12 => ⟨S4x2048x1024, .f32⟩
  | 13 => ⟨S1x1x1024, .f32⟩
  | 14 => ⟨S4x2048x1024, .f32⟩
  | 15 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_c_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_cst_22 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_23 : Ref sig .tc := ⟨.hbm, 131, rfl⟩
abbrev main_v94 : Ref sig .tc := ⟨.hbm, 132, rfl⟩
abbrev main_v95 : Ref sig .tc := ⟨.hbm, 133, rfl⟩
abbrev main_cst_24 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_25 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_26 : Ref sig .tc := ⟨.hbm, 146, rfl⟩
abbrev main_v106 : Ref sig .tc := ⟨.hbm, 147, rfl⟩
abbrev main_v107 : Ref sig .tc := ⟨.hbm, 148, rfl⟩
abbrev main_c_27 : Ref sig .tc := ⟨.hbm, 149, rfl⟩
abbrev main_v108 : Ref sig .tc := ⟨.hbm, 150, rfl⟩
abbrev main_v109 : Ref sig .tc := ⟨.hbm, 151, rfl⟩
abbrev main_c_28 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_29 : Ref sig .tc := ⟨.hbm, 158, rfl⟩
abbrev main_v115 : Ref sig .tc := ⟨.hbm, 159, rfl⟩
abbrev main_v116 : Ref sig .tc := ⟨.hbm, 160, rfl⟩
abbrev main_cst_30 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_31 : Ref sig .tc := ⟨.hbm, 167, rfl⟩
abbrev main_v122 : Ref sig .tc := ⟨.hbm, 168, rfl⟩
abbrev main_v123 : Ref sig .tc := ⟨.hbm, 169, rfl⟩
abbrev main_cst_32 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_33 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_34 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_35 : Ref sig .tc := ⟨.hbm, 186, rfl⟩
abbrev main_v137 : Ref sig .tc := ⟨.hbm, 187, rfl⟩
abbrev main_v138 : Ref sig .tc := ⟨.hbm, 188, rfl⟩
abbrev main_c_36 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_c_37 : Ref sig .tc := ⟨.hbm, 196, rfl⟩
abbrev main_v145 : Ref sig .tc := ⟨.hbm, 197, rfl⟩
abbrev main_v146 : Ref sig .tc := ⟨.hbm, 198, rfl⟩
abbrev main_c_38 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_39 : Ref sig .tc := ⟨.hbm, 207, rfl⟩
abbrev main_v154 : Ref sig .tc := ⟨.hbm, 208, rfl⟩
abbrev main_v155 : Ref sig .tc := ⟨.hbm, 209, rfl⟩
abbrev main_c_40 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_call0_v0 : Ref sig .tc := ⟨.hbm, 223, rfl⟩
abbrev main_call0_v1 : Ref sig .tc := ⟨.hbm, 224, rfl⟩
abbrev main_call0_cst : Ref sig .tc := ⟨.hbm, 225, rfl⟩
abbrev main_call0_v2 : Ref sig .tc := ⟨.hbm, 226, rfl⟩
abbrev main_call0_v3 : Ref sig .tc := ⟨.hbm, 227, rfl⟩
abbrev main_call0_cst_0 : Ref sig .tc := ⟨.hbm, 228, rfl⟩
abbrev main_call0_v4 : Ref sig .tc := ⟨.hbm, 229, rfl⟩
abbrev main_call0_v5 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_41 : Ref sig .tc := ⟨.hbm, 243, rfl⟩
abbrev main_v180 : Ref sig .tc := ⟨.hbm, 244, rfl⟩
abbrev main_v181 : Ref sig .tc := ⟨.hbm, 245, rfl⟩
abbrev main_cst_42 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_cst_43 : Ref sig .tc := ⟨.hbm, 252, rfl⟩
abbrev main_v187 : Ref sig .tc := ⟨.hbm, 253, rfl⟩
abbrev main_v188 : Ref sig .tc := ⟨.hbm, 254, rfl⟩
abbrev main_cst_44 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_45 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩

abbrev nD : Nat := 1
abbrev τ : Topo := Topo.v7x

variable {F : FTy → Type} [FloatOps F]
-- ==== Kernel2.lean ====
abbrev S1000x1024 : Shape := ⟨2, ![1000, 1024]⟩
abbrev S1024x1024 : Shape := ⟨2, ![1024, 1024]⟩
abbrev S5x1024 : Shape := ⟨2, ![5, 1024]⟩
abbrev S3x1024 : Shape := ⟨2, ![3, 1024]⟩
abbrev S1024x2048 : Shape := ⟨2, ![1024, 2048]⟩
abbrev S24x1024 : Shape := ⟨2, ![24, 1024]⟩
abbrev S8x1024 : Shape := ⟨2, ![8, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1000x1024, .f32⟩
  | .hbm, ⟨1, _⟩ => ⟨S1000x1024, .f32⟩
  | .hbm, ⟨2, _⟩ => ⟨S1024x1024, .f32⟩
  | .hbm, ⟨3, _⟩ => ⟨S5x1024, .f32⟩
  | .hbm, ⟨4, _⟩ => ⟨S5x1024, .f32⟩
  | .hbm, ⟨5, _⟩ => ⟨S3x1024, .f32⟩
  | .hbm, ⟨6, _⟩ => ⟨S1024x2048, .bf16⟩
  | .hbm, ⟨7, _⟩ => ⟨S1024x1024, .bf16⟩
  | .hbm, ⟨8, _⟩ => ⟨S24x1024, .bf16⟩
  | .local _ .vmem, ⟨0, _⟩ => ⟨S1000x1024, .f32⟩
  | .local _ .vmem, ⟨1, _⟩ => ⟨S1000x1024, .f32⟩
  | .local _ .vmem, ⟨2, _⟩ => ⟨S1024x1024, .f32⟩
  | .local _ .vmem, ⟨3, _⟩ => ⟨S5x1024, .f32⟩
  | .local _ .vmem, ⟨4, _⟩ => ⟨S5x1024, .f32⟩
  | .local _ .vmem, ⟨5, _⟩ => ⟨S3x1024, .f32⟩
  | .local _ .vmem, ⟨6, _⟩ => ⟨S1024x2048, .bf16⟩
  | .local _ .vmem, ⟨7, _⟩ => ⟨S1024x1024, .bf16⟩
  | .local _ .vmem, ⟨8, _⟩ => ⟨S24x1024, .bf16⟩
  | _, _ => ⟨S1000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1000x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference2Ideal.lean ====
abbrev S1000x1024 : Shape := ⟨2, ![1000, 1024]⟩
abbrev S1024x1024 : Shape := ⟨2, ![1024, 1024]⟩
abbrev S5x1024 : Shape := ⟨2, ![5, 1024]⟩
abbrev S3x1024 : Shape := ⟨2, ![3, 1024]⟩
abbrev S_ : Shape := ⟨0, ![]⟩
abbrev S1000x2048 : Shape := ⟨2, ![1000, 2048]⟩
abbrev S24x2048 : Shape := ⟨2, ![24, 2048]⟩
abbrev S1024x2048 : Shape := ⟨2, ![1024, 2048]⟩
abbrev S8x1024 : Shape := ⟨2, ![8, 1024]⟩
abbrev S24x1024 : Shape := ⟨2, ![24, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1000x1024, .f32⟩
  | .hbm, ⟨1, _⟩ => ⟨S1000x1024, .f32⟩
  | .hbm, ⟨2, _⟩ => ⟨S1024x1024, .f32⟩
  | .hbm, ⟨3, _⟩ => ⟨S5x1024, .f32⟩
  | .hbm, ⟨4, _⟩ => ⟨S5x1024, .f32⟩
  | .hbm, ⟨5, _⟩ => ⟨S3x1024, .f32⟩
  | .hbm, ⟨6, _⟩ => ⟨S_, .f32⟩
  | .hbm, ⟨7, _⟩ => ⟨S1000x1024, .f32⟩
  | .hbm, ⟨8, _⟩ => ⟨S1000x1024, .f32⟩
  | .hbm, ⟨9, _⟩ => ⟨S1000x2048, .f32⟩
  | .hbm, ⟨10, _⟩ => ⟨S_, .f32⟩
  | .hbm, ⟨11, _⟩ => ⟨S24x2048, .f32⟩
  | .hbm, ⟨12, _⟩ => ⟨S1024x2048, .f32⟩
  | .hbm, ⟨13, _⟩ => ⟨S_, .f32⟩
  | .hbm, ⟨14, _⟩ => ⟨S5x1024, .f32⟩
  | .hbm, ⟨15, _⟩ => ⟨S5x1024, .f32⟩
  | .hbm, ⟨16, _⟩ => ⟨S_, .f32⟩
  | .hbm, ⟨17, _⟩ => ⟨S3x1024, .f32⟩
  | .hbm, ⟨18, _⟩ => ⟨S8x1024, .f32⟩
  | .hbm, ⟨19, _⟩ => ⟨S_, .f32⟩
  | .hbm, ⟨20, _⟩ => ⟨S5x1024, .f32⟩
  | .hbm, ⟨21, _⟩ => ⟨S5x1024, .f32⟩
  | .hbm, ⟨22, _⟩ => ⟨S_, .f32⟩
  | .hbm, ⟨23, _⟩ => ⟨S3x1024, .f32⟩
  | .hbm, ⟨24, _⟩ => ⟨S8x1024, .f32⟩
  | .hbm, ⟨25, _⟩ => ⟨S_, .f32⟩
  | .hbm, ⟨26, _⟩ => ⟨S3x1024, .f32⟩
  | .hbm, ⟨27, _⟩ => ⟨S3x1024, .f32⟩
  | .hbm, ⟨28, _⟩ => ⟨S_, .f32⟩
  | .hbm, ⟨29, _⟩ => ⟨S5x1024, .f32⟩
  | .hbm, ⟨30, _⟩ => ⟨S8x1024, .f32⟩
  | .hbm, ⟨31, _⟩ => ⟨S24x1024, .f32⟩
  | .hbm, ⟨32, _⟩ => ⟨S1024x2048, .bf16⟩
  | .hbm, ⟨33, _⟩ => ⟨S1024x1024, .bf16⟩
  | .hbm, ⟨34, _⟩ => ⟨S24x1024, .bf16⟩
  | _, _ => ⟨S1000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel3.lean ====
abbrev S4x512 : Shape := ⟨2, ![4, 512]⟩
abbrev S4x64 : Shape := ⟨2, ![4, 64]⟩
abbrev S4x32 : Shape := ⟨2, ![4, 32]⟩
abbrev S5x1024 : Shape := ⟨2, ![5, 1024]⟩
abbrev S3x1024 : Shape := ⟨2, ![3, 1024]⟩
abbrev S512x1024 : Shape := ⟨2, ![512, 1024]⟩
abbrev S1024 : Shape := ⟨1, ![1024]⟩
abbrev S1024x1024 : Shape := ⟨2, ![1024, 1024]⟩
abbrev S64x1024 : Shape := ⟨2, ![64, 1024]⟩
abbrev S32x1024 : Shape := ⟨2, ![32, 1024]⟩
abbrev S6144x1024 : Shape := ⟨2, ![6144, 1024]⟩
abbrev S6 : Shape := ⟨1, ![6]⟩
abbrev S1x1024 : Shape := ⟨2, ![1, 1024]⟩
abbrev S16x1024 : Shape := ⟨2, ![16, 1024]⟩
abbrev S4096x1024 : Shape := ⟨2, ![4096, 1024]⟩
abbrev S24x1024 : Shape := ⟨2, ![24, 1024]⟩
abbrev S4x1x1024 : Shape := ⟨3, ![4, 1, 1024]⟩
abbrev S3072x1024 : Shape := ⟨2, ![3072, 1024]⟩
abbrev S1x6 : Shape := ⟨2, ![1, 6]⟩
abbrev S1 : Shape := ⟨1, ![1]⟩
abbrev S1x1 : Shape := ⟨2, ![1, 1]⟩
abbrev S8x1024 : Shape := ⟨2, ![8, 1024]⟩
abbrev S4x1024 : Shape := ⟨2, ![4, 1024]⟩
abbrev S4 : Shape := ⟨1, ![4]⟩
abbrev S4x1 : Shape := ⟨2, ![4, 1]⟩
abbrev S4x3072 : Shape := ⟨2, ![4, 3072]⟩

abbrev nBuf : Space → Nat
  | .hbm => 50
  | .vmem => 22
  | .smem => 0
  | _ => 0

abbrev bufTy : (tb : Table) → Fin (tcTables nBuf tb) → BufTy
  | .hbm, ⟨0, _⟩ => ⟨S4x512, .f32⟩
  | .hbm, ⟨1, _⟩ => ⟨S4x64, .f32⟩
  | .hbm, ⟨2, _⟩ => ⟨S4x32, .f32⟩
  | .hbm, ⟨3, _⟩ => ⟨S5x1024, .f32⟩
  | .hbm, ⟨4, _⟩ => ⟨S5x1024, .f32⟩
  | .hbm, ⟨5, _⟩ => ⟨S3x1024, .f32⟩
  | .hbm, ⟨6, _⟩ => ⟨S512x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S64x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S32x1024, .f32⟩
  | .hbm, ⟨19, _⟩ => ⟨S1024, .f32⟩
  | .hbm, ⟨20, _⟩ => ⟨S1024x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S6144x1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S6, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S16x1024, .f32⟩
  | .hbm, ⟨47, _⟩ => ⟨S4096x1024, .bf16⟩
  | .hbm, ⟨48, _⟩ => ⟨S24x1024, .f32⟩
  | .hbm, ⟨49, _⟩ => ⟨S4x1x1024, .f32⟩
  | .local _ .vmem, ⟨0, _⟩ => ⟨S6, .f32⟩
  | .local _ .vmem, ⟨1, _⟩ => ⟨S1024x1024, .f32⟩
  | .local _ .vmem, ⟨2, _⟩ => ⟨S1024x1024, .f32⟩
  | .local _ .vmem, ⟨3, _⟩ => ⟨S4x512, .f32⟩
  | .local _ .vmem, ⟨4, _⟩ => ⟨S4x64, .f32⟩
  | .local _ .vmem, ⟨5, _⟩ => ⟨S4x32, .f32⟩
  | .local _ .vmem, ⟨6, _⟩ => ⟨S512x1024, .f32⟩
  | .local _ .vmem, ⟨7, _⟩ => ⟨S1024x1024, .f32⟩
  | .local _ .vmem, ⟨8, _⟩ => ⟨S64x1024, .f32⟩
  | .local _ .vmem, ⟨9, _⟩ => ⟨S1024x1024, .f32⟩
  | .local _ .vmem, ⟨10, _⟩ => ⟨S32x1024, .f32⟩
  | .local _ .vmem, ⟨11, _⟩ => ⟨S1024x1024, .f32⟩
  | .local _ .vmem, ⟨12, _⟩ => ⟨S5x1024, .f32⟩
  | .local _ .vmem, ⟨13, _⟩ => ⟨S5x1024, .f32⟩
  | .local _ .vmem, ⟨14, _⟩ => ⟨S3x1024, .f32⟩
  | .local _ .vmem, ⟨15, _⟩ => ⟨S16x1024, .f32⟩
  | .local _ .vmem, ⟨16, _⟩ => ⟨S1024x1024, .bf16⟩
  | .local _ .vmem, ⟨17, _⟩ => ⟨S1024x1024, .bf16⟩
  | .local _ .vmem, ⟨18, _⟩ => ⟨S24x1024, .f32⟩
  | .local _ .vmem, ⟨19, _⟩ => ⟨S4x1x1024, .f32⟩
  | .local _ .vmem, ⟨20, _⟩ => ⟨S1024x1024, .f32⟩
  | .local _ .vmem, ⟨21, _⟩ => ⟨S3072x1024, .bf16⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17_0 : Ref sig .tc := ⟨.hbm, 47, rfl⟩
abbrev main_v17_1 : Ref sig .tc := ⟨.hbm, 48, rfl⟩
abbrev main_v17_2 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg17_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem17_0 : DmaSem sig := 19

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let c1_i32 : BitVec 32 := 1#32
  let v31 : BitVec 1 := Scalar.cmpi .eq arg0 c1_i32
  let v32 : BitVec 1 := Scalar.ori v30 v31
  let c5_i32 : BitVec 32 := 5#32
  let v33 : BitVec 1 := Scalar.cmpi .eq arg0 c5_i32
  let v34 : BitVec 1 := Scalar.ori v32 v33
  let v35 : BitVec 32 := Scalar.extui v34
  let c0_i32_5 : BitVec 32 := 0#32
  let v36 : BitVec 1 := Scalar.cmpi .ne v35 c0_i32_5
  v36

def k0_cond6 (i : grid0.Coords) : BitVec 1 :=
  let arg0 : BitVec 32 := BitVec.ofNat 32 (i 0).val
  let c4_i32 : BitVec 32 := 4#32
  let v49 : BitVec 1 := Scalar.cmpi .eq arg0 c4_i32
  let v50 : BitVec 32 := Scalar.extui v49
  let c0_i32_12 : BitVec 32 := 0#32
  let v51 : BitVec 1 := Scalar.cmpi .ne v50 c0_i32_12
  v51

def k0_cond2 (i : grid0.Coords) : BitVec 1 :=
  let arg0 : BitVec 32 := BitVec.ofNat 32 (i 0).val
  let c0_i32_6 : BitVec 32 := 0#32
  let v37 : BitVec 1 := Scalar.cmpi .eq arg0 c0_i32_6
  let v38 : BitVec 32 := Scalar.extui v37
  let c0_i32_7 : BitVec 32 := 0#32
  let v39 : BitVec 1 := Scalar.cmpi .ne v38 c0_i32_7
  v39

def k0_cond3 (i : grid0.Coords) : BitVec 1 :=
  let arg0 : BitVec 32 := BitVec.ofNat 32 (i 0).val
  let c1_i32_8 : BitVec 32 := 1#32
  let v40 : BitVec 1 := Scalar.cmpi .eq arg0 c1_i32_8
  let v41 : BitVec 32 := Scalar.extui v40
  let c0_i32_9 : BitVec 32 := 0#32
  let v42 : BitVec 1 := Scalar.cmpi .ne v41 c0_i32_9
  v42

def k0_cond7 (i : grid0.Coords) : BitVec 1 :=
  let arg0 : BitVec 32 := BitVec.ofNat 32 (i 0).val
  let c5_i32_13 : BitVec 32 := 5#32
  let v52 : BitVec 1 := Scalar.cmpi .eq arg0 c5_i32_13
  let v53 : BitVec 32 := Scalar.extui v52
  let c0_i32_14 : BitVec 32 := 0#32
  let v54 : BitVec 1 := Scalar.cmpi .ne v53 c0_i32_14
  v54

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c2_i32 : BitVec 32 := 2#32
  let v0 : BitVec 1 := Scalar.cmpi .slt arg0 c2_i32
  let c5_i32 : BitVec 32 := 5#32
  let v1 : BitVec 1 := Scalar.cmpi .eq arg0 c5_i32
  let c2_i32_0 : BitVec 32 := 2#32
  let c3_i32 : BitVec 32 := 3#32
  let v2 : BitVec 32 := Scalar.select v1 c2_i32_0 c3_i32
  let v3 : BitVec 32 := Scalar.select v0 arg0 v2
  let c0_i32 : BitVec 32 := 0#32
  let c0_i32_1 : BitVec 32 := 0#32
  ![v3.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S24x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S4x512 : Shape := ⟨2, ![4, 512]⟩
abbrev S4x64 : Shape := ⟨2, ![4, 64]⟩
abbrev S4x32 : Shape := ⟨2, ![4, 32]⟩
abbrev S5x1024 : Shape := ⟨2, ![5, 1024]⟩
abbrev S3x1024 : Shape := ⟨2, ![3, 1024]⟩
abbrev S512x1024 : Shape := ⟨2, ![512, 1024]⟩
abbrev S1024 : Shape := ⟨1, ![1024]⟩
abbrev S1024x1024 : Shape := ⟨2, ![1024, 1024]⟩
abbrev S64x1024 : Shape := ⟨2, ![64, 1024]⟩
abbrev S32x1024 : Shape := ⟨2, ![32, 1024]⟩
abbrev S6144x1024 : Shape := ⟨2, ![6144, 1024]⟩
abbrev S6 : Shape := ⟨1, ![6]⟩
abbrev S4x1024 : Shape := ⟨2, ![4, 1024]⟩
abbrev S1x1024 : Shape := ⟨2, ![1, 1024]⟩
abbrev S_ : Shape := ⟨0, ![]⟩
abbrev S4 : Shape := ⟨1, ![4]⟩
abbrev S4x1 : Shape := ⟨2, ![4, 1]⟩
abbrev S1 : Shape := ⟨1, ![1]⟩
abbrev S4x3072 : Shape := ⟨2, ![4, 3072]⟩
abbrev S3072x1024 : Shape := ⟨2, ![3072, 1024]⟩
abbrev S24x1024 : Shape := ⟨2, ![24, 1024]⟩
abbrev S4096x1024 : Shape := ⟨2, ![4096, 1024]⟩
abbrev S4x1x1024 : Shape := ⟨3, ![4, 1, 1024]⟩

abbrev nBuf : Space → Nat
  | .hbm => 259
  | .vmem => 0
  | .smem => 0
  | _ => 0

abbrev hbmTy0_0 (i : Nat) : BufTy := match i % 128 with
  | 0 => ⟨S4x512, .f32⟩
  | 1 => ⟨S4x64, .f32⟩
  | 2 => ⟨S4x32, .f32⟩
  | 3 => ⟨S5x1024, .f32⟩
  | 4 => ⟨S5x1024, .f32⟩
  | 5 => ⟨S3x1024, .f32⟩
  | 6 => ⟨S512x1024, .f32⟩
  | 7 => ⟨S1024, .f32⟩
  | 8 => ⟨S1024x1024, .f32⟩
  | 9 => ⟨S1024, .f32⟩
  | 10 => ⟨S1024, .f32⟩
  | 11 => ⟨S1024, .f32⟩
  | 12 => ⟨S64x1024, .f32⟩
  | 13 => ⟨S1024, .f32⟩
  | 14 => ⟨S1024x1024, .f32⟩
  | 15 => ⟨S1024, .f32⟩
  | 16 => ⟨S1024, .f32⟩
  | 17 => ⟨S1024, .f32⟩
  | 18 => ⟨S32x1024, .f32⟩
  | 19 => ⟨S1024, .f32⟩
  | 20 => ⟨S1024x1024, .f32⟩
  | 21 => ⟨S1024, .f32⟩
  | 22 => ⟨S1024, .f32⟩
  | 23 => ⟨S1024, .f32⟩
  | 24 => ⟨S6144x1024, .f32⟩
  | 25 => ⟨S1024, .f32⟩
  | 26 => ⟨S1024, .f32⟩
  | 27 => ⟨S1024, .f32⟩
  | 28 => ⟨S1024, .f32⟩
  | 29 => ⟨S6, .f32⟩
  | 30 => ⟨S4x1024, .f32⟩
  | 31 => ⟨S1x1024, .f32⟩
  | 32 => ⟨S4x1024, .f32⟩
  | 33 => ⟨S4x1024, .f32⟩
  | 34 => ⟨S4x1024, .f32⟩
  | 35 => ⟨S4x1024, .f32⟩
  | 36 => ⟨S_, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S4x1024, .f32⟩
  | 43 => ⟨S4x1024, .f32⟩
  | 44 => ⟨S1x1024, .f32⟩
  | 45 => ⟨S4x1024, .f32⟩
  | 46 => ⟨S4x1024, .f32⟩
  | 47 => ⟨S_, .f32⟩
  | 48 => ⟨S4, .f32⟩
  | 49 => ⟨S4x1, .f32⟩
  | 50 => ⟨S_, .f32⟩
  | 51 => ⟨S4x1, .f32⟩
  | 52 => ⟨S4x1, .f32⟩
  | 53 => ⟨S4x1024, .f32⟩
  | 54 => ⟨S4x1024, .f32⟩
  | 55 => ⟨S4x1024, .f32⟩
  | 56 => ⟨S_, .f32⟩
  | 57 => ⟨S4, .f32⟩
  | 58 => ⟨S4x1, .f32⟩
  | 59 => ⟨S_, .f32⟩
  | 60 => ⟨S4x1, .f32⟩
  | 61 => ⟨S4x1, .f32⟩
  | 62 => ⟨S4x1024, .f32⟩
  | 63 => ⟨S4x1024, .f32⟩
  | 64 => ⟨S_, .f32⟩
  | 65 => ⟨S4x1, .f32⟩
  | 66 => ⟨S4x1, .f32⟩
  | 67 => ⟨S4x1, .f32⟩
  | 68 => ⟨S4x1024, .f32⟩
  | 69 => ⟨S4x1024, .f32⟩
  | 70 => ⟨S1x1024, .f32⟩
  | 71 => ⟨S4x1024, .f32⟩
  | 72 => ⟨S4x1024, .f32⟩
  | 73 => ⟨S1x1024, .f32⟩
  | 74 => ⟨S4x1024, .f32⟩
  | 75 => ⟨S4x1024, .f32⟩
  | 76 => ⟨S4x1024, .f32⟩
  | 77 => ⟨S1x1024, .f32⟩
  | 78 => ⟨S4x1024, .f32⟩
  | 79 => ⟨S4x1024, .f32⟩
  | 80 => ⟨S4x1024, .f32⟩
  | 81 => ⟨S4x1024, .f32⟩
  | 82 => ⟨S_, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S4x1024, .f32⟩
  | 89 => ⟨S4x1024, .f32⟩
  | 90 => ⟨S1x1024, .f32⟩
  | 91 => ⟨S4x1024, .f32⟩
  | 92 => ⟨S4x1024, .f32⟩
  | 93 => ⟨S_, .f32⟩
  | 94 => ⟨S4, .f32⟩
  | 95 => ⟨S4x1, .f32⟩
  | 96 => ⟨S_, .f32⟩
  | 97 => ⟨S4x1, .f32⟩
  | 98 => ⟨S4x1, .f32⟩
  | 99 => ⟨S4x1024, .f32⟩
  | 100 => ⟨S4x1024, .f32⟩
  | 101 => ⟨S4x1024, .f32⟩
  | 102 => ⟨S_, .f32⟩
  | 103 => ⟨S4, .f32⟩
  | 104 => ⟨S4x1, .f32⟩
  | 105 => ⟨S_, .f32⟩
  | 106 => ⟨S4x1, .f32⟩
  | 107 => ⟨S4x1, .f32⟩
  | 108 => ⟨S4x1024, .f32⟩
  | 109 => ⟨S4x1024, .f32⟩
  | 110 => ⟨S_, .f32⟩
  | 111 => ⟨S4x1, .f32⟩
  | 112 => ⟨S4x1, .f32⟩
  | 113 => ⟨S4x1, .f32⟩
  | 114 => ⟨S4x1024, .f32⟩
  | 115 => ⟨S4x1024, .f32⟩
  | 116 => ⟨S1x1024, .f32⟩
  | 117 => ⟨S4x1024, .f32⟩
  | 118 => ⟨S4x1024, .f32⟩
  | 119 => ⟨S1x1024, .f32⟩
  | 120 => ⟨S4x1024, .f32⟩
  | 121 => ⟨S4x1024, .f32⟩
  | 122 => ⟨S4x1024, .f32⟩
  | 123 => ⟨S1x1024, .f32⟩
  | 124 => ⟨S4x1024, .f32⟩
  | 125 => ⟨S4x1024, .f32⟩
  | 126 => ⟨S4x1024, .f32⟩
  | 127 => ⟨S4x1024, .f32⟩
  | _ => ⟨S4x512, .f32⟩

abbrev hbmTy0_1 (i : Nat) : BufTy := match i % 128 with
  | 0 => ⟨S_, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S4x1024, .f32⟩
  | 8 => ⟨S1x1024, .f32⟩
  | 9 => ⟨S4x1024, .f32⟩
  | 10 => ⟨S4x1024, .f32⟩
  | 11 => ⟨S_, .f32⟩
  | 12 => ⟨S4, .f32⟩
  | 13 => ⟨S4x1, .f32⟩
  | 14 => ⟨S_, .f32⟩
  | 15 => ⟨S4x1, .f32⟩
  | 16 => ⟨S4x1, .f32⟩
  | 17 => ⟨S4x1024, .f32⟩
  | 18 => ⟨S4x1024, .f32⟩
  | 19 => ⟨S4x1024, .f32⟩
  | 20 => ⟨S_, .f32⟩
  | 21 => ⟨S4, .f32⟩
  | 22 => ⟨S4x1, .f32⟩
  | 23 => ⟨S_, .f32⟩
  | 24 => ⟨S4x1, .f32⟩
  | 25 => ⟨S4x1, .f32⟩
  | 26 => ⟨S4x1024, .f32⟩
  | 27 => ⟨S4x1024, .f32⟩
  | 28 => ⟨S_, .f32⟩
  | 29 => ⟨S4x1, .f32⟩
  | 30 => ⟨S4x1, .f32⟩
  | 31 => ⟨S4x1, .f32⟩
  | 32 => ⟨S4x1024, .f32⟩
  | 33 => ⟨S4x1024, .f32⟩
  | 34 => ⟨S1x1024, .f32⟩
  | 35 => ⟨S4x1024, .f32⟩
  | 36 => ⟨S4x1024, .f32⟩
  | 37 => ⟨S1x1024, .f32⟩
  | 38 => ⟨S4x1024, .f32⟩
  | 39 => ⟨S4x1024, .f32⟩
  | 40 => ⟨S_, .f32⟩
  | 41 => ⟨S_, .f32⟩
  | 42 => ⟨S_, .f32⟩
  | 43 => ⟨S_, .f32⟩
  | 44 => ⟨S1, .f32⟩
  | 45 => ⟨S6, .f32⟩
  | 46 => ⟨S6, .f32⟩
  | 47 => ⟨S6, .f32⟩
  | 48 => ⟨S_, .f32⟩
  | 49 => ⟨S_, .f32⟩
  | 50 => ⟨S1, .f32⟩
  | 51 => ⟨S6, .f32⟩
  | 52 => ⟨S6, .f32⟩
  | 53 => ⟨S1, .f32⟩
  | 54 => ⟨S_, .f32⟩
  | 55 => ⟨S4x1024, .f32⟩
  | 56 => ⟨S4x1024, .f32⟩
  | 57 => ⟨S1, .f32⟩
  | 58 => ⟨S_, .f32⟩
  | 59 => ⟨S4x1024, .f32⟩
  | 60 => ⟨S4x1024, .f32⟩
  | 61 => ⟨S1, .f32⟩
  | 62 => ⟨S_, .f32⟩
  | 63 => ⟨S4x1024, .f32⟩
  | 64 => ⟨S4x1024, .f32⟩
  | 65 => ⟨S4x3072, .f32⟩
  | 66 => ⟨S3072x1024, .f32⟩
  | 67 => ⟨S4x1024, .f32⟩
  | 68 => ⟨S1x1024, .f32⟩
  | 69 => ⟨S4x1024, .f32⟩
  | 70 => ⟨S4x1024, .f32⟩
  | 71 => ⟨S1, .f32⟩
  | 72 => ⟨S_, .f32⟩
  | 73 => ⟨S5x1024, .f32⟩
  | 74 => ⟨S5x1024, .f32⟩
  | 75 => ⟨S1024x1024, .f32⟩
  | 76 => ⟨S5x1024, .f32⟩
  | 77 => ⟨S_, .f32⟩
  | 78 => ⟨S3x1024, .f32⟩
  | 79 => ⟨S1, .f32⟩
  | 80 => ⟨S_, .f32⟩
  | 81 => ⟨S5x1024, .f32⟩
  | 82 => ⟨S5x1024, .f32⟩
  | 83 => ⟨S1024x1024, .f32⟩
  | 84 => ⟨S5x1024, .f32⟩
  | 85 => ⟨S_, .f32⟩
  | 86 => ⟨S3x1024, .f32⟩
  | 87 => ⟨S1, .f32⟩
  | 88 => ⟨S_, .f32⟩
  | 89 => ⟨S3x1024, .f32⟩
  | 90 => ⟨S3x1024, .f32⟩
  | 91 => ⟨S1024x1024, .f32⟩
  | 92 => ⟨S3x1024, .f32⟩
  | 93 => ⟨S_, .f32⟩
  | 94 => ⟨S5x1024, .f32⟩
  | 95 => ⟨S24x1024, .f32⟩
  | 96 => ⟨S1, .f32⟩
  | 97 => ⟨S_, .f32⟩
  | 98 => ⟨S1024x1024, .f32⟩
  | 99 => ⟨S1024x1024, .f32⟩
  | 100 => ⟨S1024x1024, .f32⟩
  | 101 => ⟨S1, .f32⟩
  | 102 => ⟨S_, .f32⟩
  | 103 => ⟨S1024x1024, .f32⟩
  | 104 => ⟨S1024x1024, .f32⟩
  | 105 => ⟨S1024x1024, .f32⟩
  | 106 => ⟨S1, .f32⟩
  | 107 => ⟨S_, .f32⟩
  | 108 => ⟨S1024x1024, .f32⟩
  | 109 => ⟨S1024x1024, .f32⟩
  | 110 => ⟨S1024x1024, .f32⟩
  | 111 => ⟨S1, .f32⟩
  | 112 => ⟨S_, .f32⟩
  | 113 => ⟨S1024x1024, .f32⟩
  | 114 => ⟨S1024x1024, .f32⟩
  | 115 => ⟨S1024x1024, .f32⟩
  | 116 => ⟨S1, .f32⟩
  | 117 => ⟨S_, .f32⟩
  | 118 => ⟨S1024x1024, .f32⟩
  | 119 => ⟨S1024x1024, .f32⟩
  | 120 => ⟨S1024x1024, .f32⟩
  | 121 => ⟨S1024x1024, .f32⟩
  | 122 => ⟨S1, .f32⟩
  | 123 => ⟨S_, .f32⟩
  | 124 => ⟨S1024x1024, .f32⟩
  | 125 => ⟨S1024x1024, .f32⟩
  | 126 => ⟨S1024x1024, .f32⟩
  | 127 => ⟨S1024x1024, .f32⟩
  | _ => ⟨S4x512, .f32⟩

abbrev hbmTy0_2 (i : Nat) : BufTy := match i % 128 with
  | 0 => ⟨S4096x1024, .f32⟩
  | 1 => ⟨S4096x1024, .bf16⟩
  | 2 => ⟨S4x1x1024, .f32⟩
  | _ => ⟨S4x512, .f32⟩

abbrev hbmTy (i : Nat) : BufTy := match i / 128 with
  | 0 => hbmTy0_0 i
  | 1 => hbmTy0_1 i
  | 2 => hbmTy0_2 i
  | _ => ⟨S4x512, .f32⟩

abbrev bufTy : (tb : Table) → Fin (tcTables nBuf tb) → BufTy
  | .hbm, ⟨i, _⟩ => hbmTy i
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_cst : Ref sig .tc := ⟨.hbm, 47, rfl⟩
abbrev main_v9 : Ref sig .tc := ⟨.hbm, 48, rfl⟩
abbrev main_v10 : Ref sig .tc := ⟨.hbm, 49, rfl⟩
abbrev main_cst_0 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_1 : Ref sig .tc := ⟨.hbm, 56, rfl⟩
abbrev main_v16 : Ref sig .tc := ⟨.hbm, 57, rfl⟩
abbrev main_v17 : Ref sig .tc := ⟨.hbm, 58, rfl⟩
abbrev main_cst_2 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_3 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_4 : Ref sig .tc := ⟨.hbm, 93, rfl⟩
abbrev main_v42 : Ref sig .tc := ⟨.hbm, 94, rfl⟩
abbrev main_v43 : Ref sig .tc := ⟨.hbm, 95, rfl⟩
abbrev main_cst_5 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_6 : Ref sig .tc := ⟨.hbm, 102, rfl⟩
abbrev main_v49 : Ref sig .tc := ⟨.hbm, 103, rfl⟩
abbrev main_v50 : Ref sig .tc := ⟨.hbm, 104, rfl⟩
abbrev main_cst_7 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_8 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_call2_v0 : Ref sig .tc := ⟨.hbm, 126, rfl⟩
abbrev main_call2_v1 : Ref sig .tc := ⟨.hbm, 127, rfl⟩
abbrev main_call2_cst : Ref sig .tc := ⟨.hbm, 128, rfl⟩
abbrev main_call2_v2 : Ref sig .tc := ⟨.hbm, 129, rfl⟩
abbrev main_call2_v3 : Ref sig .tc := ⟨.hbm, 130, rfl⟩
abbrev main_call2_cst_0 : Ref sig .tc := ⟨.hbm, 131, rfl⟩
abbrev main_call2_v4 : Ref sig .tc := ⟨.hbm, 132, rfl⟩
abbrev main_call2_v5 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_9 : Ref sig .tc := ⟨.hbm, 139, rfl⟩
abbrev main_v75 : Ref sig .tc := ⟨.hbm, 140, rfl⟩
abbrev main_v76 : Ref sig .tc := ⟨.hbm, 141, rfl⟩
abbrev main_cst_10 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_cst_11 : Ref sig .tc := ⟨.hbm, 148, rfl⟩
abbrev main_v82 : Ref sig .tc := ⟨.hbm, 149, rfl⟩
abbrev main_v83 : Ref sig .tc := ⟨.hbm, 150, rfl⟩
abbrev main_cst_12 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_13 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_14 : Ref sig .tc := ⟨.hbm, 168, rfl⟩
abbrev main_v99 : Ref sig .tc := ⟨.hbm, 169, rfl⟩
abbrev main_cst_15 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_16 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_cst_17 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_cst_18 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_19 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩

abbrev nD : Nat := 1
abbrev τ : Topo := Topo.v7x

variable {F : FTy → Type} [FloatOps F]
-- ==== Proof.WeightsBody.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.Pipeline.Value
public import Idealize.ShloMosaic.Lib.VecWindow

/-! The call `weights_prep`: what one run of its body leaves in its staging and scratch buffers. -/

@[expose] public section

set_option maxRecDepth 16384

noncomputable section

namespace Cert.Weights

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 as a condition on the point. -/
abbrev cond0_0 (i : grid0.Coords) : Prop := k0_cond1 i = 1#1
/-- It holds at the points whose coordinates do not have both 2 ≤ i0 and i0 ≤ 4. -/
theorem hcond0_0 : ∀ t : Fin cfg0.N, cond0_0 (grid0.coords t) ↔ ¬(2 ≤ t.val % 6 ∧ t.val % 6 ≤ 4) :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ ¬(2 ≤ t.val % 6 ∧ t.val % 6 ≤ 4))

/-- The condition of the body's `scf.if` 1 as a condition on the point. -/
abbrev cond0_1 (i : grid0.Coords) : Prop := k0_cond2 i = 1#1
/-- It holds at the first point only. -/
theorem hcond0_1 : ∀ t : Fin cfg0.N, cond0_1 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_1, k0_cond2, e0]
    word_cmp
   : ∀ t : Fin grid0.N, cond0_1 (grid0.coords t) ↔ t.val % 6 = 0)

/-- The condition of the body's `scf.if` 2 as a condition on the point. -/
abbrev cond0_2 (i : grid0.Coords) : Prop := k0_cond3 i = 1#1
/-- It holds at point 1 only. -/
theorem hcond0_2 : ∀ t : Fin cfg0.N, cond0_2 (grid0.coords t) ↔ t.val % 6 = 1 :=
  (fun t => by
    have ht : t.val < 6 := Nat.lt_of_lt_of_eq t.isLt N_0
    have e0 : (grid0.coords t 0).val = t.val / 1 % 6 := Pipeline.Grid.coords_val t 0 (by decide) rfl
    simp only [cond0_2, k0_cond3, e0]
    word_cmp
   : ∀ t : Fin grid0.N, cond0_2 (grid0.coords t) ↔ t.val % 6 = 1)

/-- The condition of the body's `scf.if` 3 as a condition on the point. -/
abbrev cond0_3 (i : grid0.Coords) : Prop := (Scalar.cmpi .ne (Scalar.extui (Scalar.cmpi .eq (BitVec.ofNat 32 (i 0).val) 2#32)) 0#32) = 1#1
/-- It holds at point 2 only. -/
theorem hcond0_3 : ∀ t : Fin cfg0.N, cond0_3 (grid0.coords t) ↔ t.val % 6 = 2 :=
  (fun t => by
    have ht : t.val < 6 := Nat.lt_of_lt_of_eq t.isLt N_0
    have e0 : (grid0.coords t 0).val = t.val / 1 % 6 := Pipeline.Grid.coords_val t 0 (by decide) rfl
    simp only [cond0_3, e0]
    word_cmp
   : ∀ t : Fin grid0.N, cond0_3 (grid0.coords t) ↔ t.val % 6 = 2)

/-- The condition of the body's `scf.if` 4 as a condition on the point. -/
abbrev cond0_4 (i : grid0.Coords) : Prop := (Scalar.cmpi .ne (Scalar.extui (Scalar.cmpi .eq (BitVec.ofNat 32 (i 0).val) 3#32)) 0#32) = 1#1
/-- It holds at point 3 only. -/
theorem hcond0_4 : ∀ t : Fin cfg0.N, cond0_4 (grid0.coords t) ↔ t.val % 6 = 3 :=
  (fun t => by
    have ht : t.val < 6 := Nat.lt_of_lt_of_eq t.isLt N_0
    have e0 : (grid0.coords t 0).val = t.val / 1 % 6 := Pipeline.Grid.coords_val t 0 (by decide) rfl
    simp only [cond0_4, e0]
    word_cmp
   : ∀ t : Fin grid0.N, cond0_4 (grid0.coords t) ↔ t.val % 6 = 3)

/-- The condition of the body's `scf.if` 5 as a condition on the point. -/
abbrev cond0_5 (i : grid0.Coords) : Prop := k0_cond6 i = 1#1
/-- It holds at point 4 only. -/
theorem hcond0_5 : ∀ t : Fin cfg0.N, cond0_5 (grid0.coords t) ↔ t.val % 6 = 4 :=
  (fun t => by
    have ht : t.val < 6 := Nat.lt_of_lt_of_eq t.isLt N_0
    have e0 : (grid0.coords t 0).val = t.val / 1 % 6 := Pipeline.Grid.coords_val t 0 (by decide) rfl
    simp only [cond0_5, k0_cond6, e0]
    word_cmp
   : ∀ t : Fin grid0.N, cond0_5 (grid0.coords t) ↔ t.val % 6 = 4)

/-- The condition of the body's `scf.if` 6 as a condition on the point. -/
abbrev cond0_6 (i : grid0.Coords) : Prop := k0_cond7 i = 1#1
/-- It holds at the last point only. -/
theorem hcond0_6 : ∀ t : Fin cfg0.N, cond0_6 (grid0.coords t) ↔ t.val % 6 = 5 :=
  (fun t => by
    have ht : t.val < 6 := Nat.lt_of_lt_of_eq t.isLt N_0
    have e0 : (grid0.coords t 0).val = t.val / 1 % 6 := Pipeline.Grid.coords_val t 0 (by decide) rfl
    simp only [cond0_6, k0_cond7, e0]
    word_cmp
   : ∀ t : Fin grid0.N, cond0_6 (grid0.coords t) ↔ t.val % 6 = 5)

/-! ## What the body leaves -/

/-- A buffer written last through the rectangle `r` reads as what was there with the rectangle's part replaced. -/
theorem read_writes_cons_overlay {κ : Kind} {sp : Space} {s : Shape} {e : EltTy} (v : View sig κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · rw [← Rect.map_emb_univ] at hy
    obtain ⟨x, -, rfl⟩ := Finset.mem_map.mp hy
    rw [View.read_writes_cons_emb, Rect.overlay_emb]
  · rw [View.read_writes_cons_miss _ _ _ _ _ hy, Rect.overlay_of_not_mem _ _ _ hy]

/-- Replacing everything. -/
theorem overlay_unit_zero {S : Shape} {α : Type} {off : Fin S.rank → Nat} (h : off = fun _ => 0) (inb : ∀ a, off a + S.size a ≤ S.size a)
    (X w : S.Idx → α) : (Rect.unit off S.size inb).overlay X w = w := by
  subst h; funext y
  have e := Rect.overlay_emb (Rect.whole S) X w y
  rw [Rect.emb_whole_apply] at e
  exact e

theorem off1_zero : (![0] : Fin 1 → Nat) = fun _ => 0 := by funext a; fin_cases a <;> rfl
theorem off2_zero : (![0, 0] : Fin 2 → Nat) = fun _ => 0 := by funext a; fin_cases a <;> rfl
theorem off3_zero : (![0, 0, 0] : Fin 3 → Nat) = fun _ => 0 := by funext a; fin_cases a <;> rfl

/-- The written block of the cast weights (window 15): the scaled block at the three first and last points, the summed one at point 4. -/
def out0_15 (i : grid0.Coords) (x0 : Vec F S6 .f32) (x1 : Vec F S1024x1024 .f32) (y15 : Vec F S1024x1024 .bf16) (s0 : Vec F S1024x1024 .f32) : Vec F S1024x1024 .bf16 :=
  if cond0_0 i then k0_pay24 i x0 x1 else if cond0_5 i then k0_pay8 (k0_pay6 (k0_pay23 i x0 x1) s0) else y15

/-- The table of projected rows (window 16): eight rows of it replaced at points 0, 1 and 5. -/
def out0_16 (i : grid0.Coords) (x0 : Vec F S6 .f32) (x1 : Vec F S1024x1024 .f32) (x11 x12 : Vec F S5x1024 .f32) (x13 : Vec F S3x1024 .f32)
    (y16 : Vec F S24x1024 .f32) : Vec F S24x1024 .f32 :=
  if cond0_1 i then (Rect.unit (s := S24x1024) ![0, 0] S8x1024.size inb_S24x1024_S8x1024_0_0).overlay y16 (k0_pay25 i x0 x1 x11)
  else if cond0_2 i then (Rect.unit (s := S24x1024) ![8, 0] S8x1024.size inb_S24x1024_S8x1024_8_0).overlay y16 (k0_pay1 (k0_pay24 i x0 x1) x12)
  else if cond0_6 i then (Rect.unit (s := S24x1024) ![16, 0] S8x1024.size inb_S24x1024_S8x1024_16_0).overlay y16 (k0_pay10 (k0_pay24 i x0 x1) x13)
  else y16

/-- The three state branches' rows against the stashed weights, with the bias added (window 17's contents at the last point). -/
def bias0 (x2 : Vec F S4x512 .f32) (x3 : Vec F S4x64 .f32) (x4 : Vec F S4x32 .f32) (x5 : Vec F S512x1024 .f32) (x6 : Vec F S1024x1024 .f32)
    (x7 : Vec F S64x1024 .f32) (x8 : Vec F S1024x1024 .f32) (x9 : Vec F S32x1024 .f32) (x10 : Vec F S1024x1024 .f32) (x14 : Vec F S16x1024 .f32)
    (s1 : Vec F S3072x1024 .bf16) : Vec F S4x1x1024 .f32 :=
  k0_pay9
    (k0_pay14 (k0_pay11 (View.ld x14 (Rect.unit (s := S16x1024) ![2, 0] S1x1024.size inb_S16x1024_S1x1024_2_0))) (k0_pay12 (View.ld x14 (Rect.unit (s := S16x1024) ![3, 0] S1x1024.size inb_S16x1024_S1x1024_3_0))) (k0_pay13 x2 x5 (View.ld x14 (Rect.unit (s := S16x1024) ![0, 0] S1x1024.size inb_S16x1024_S1x1024_0_0)) x6 (View.ld x14 (Rect.unit (s := S16x1024) ![1, 0] S1x1024.size inb_S16x1024_S1x1024_1_0))))
    (k0_pay19 (k0_pay15 x3 x7 (View.ld x14 (Rect.unit (s := S16x1024) ![4, 0] S1x1024.size inb_S16x1024_S1x1024_4_0)) x8 (View.ld x14 (Rect.unit (s := S16x1024) ![5, 0] S1x1024.size inb_S16x1024_S1x1024_5_0))) (k0_pay16 (View.ld x14 (Rect.unit (s := S16x1024) ![6, 0] S1x1024.size inb_S16x1024_S1x1024_6_0))) (k0_pay17 (View.ld x14 (Rect.unit (s := S16x1024) ![7, 0] S1x1024.size inb_S16x1024_S1x1024_7_0)))
      (k0_pay18 x3 x7 (View.ld x14 (Rect.unit (s := S16x1024) ![4, 0] S1x1024.size inb_S16x1024_S1x1024_4_0)) x8 (View.ld x14 (Rect.unit (s := S16x1024) ![5, 0] S1x1024.size inb_S16x1024_S1x1024_5_0))) (Scalar.ofBits .f32 0x44800000#32))
    (k0_pay20 x4 x9 (View.ld x14 (Rect.unit (s := S16x1024) ![8, 0] S1x1024.size inb_S16x1024_S1x1024_8_0)) x10 (View.ld x14 (Rect.unit (s := S16x1024) ![9, 0] S1x1024.size inb_S16x1024_S1x1024_9_0))) (k0_pay21 (View.ld x14 (Rect.unit (s := S16x1024) ![10, 0] S1x1024.size inb_S16x1024_S1x1024_10_0))) (k0_pay22 (View.ld x14 (Rect.unit (s := S16x1024) ![11, 0] S1x1024.size inb_S16x1024_S1x1024_11_0))) s1 (View.ld x14 (Rect.unit (s := S16x1024) ![12, 0] S1x1024.size inb_S16x1024_S1x1024_12_0))

/-- Window 17: written at the last point only. -/
def out0_17 (i : grid0.Coords) (x2 : Vec F S4x512 .f32) (x3 : Vec F S4x64 .f32) (x4 : Vec F S4x32 .f32) (x5 : Vec F S512x1024 .f32) (x6 : Vec F S1024x1024 .f32)
    (x7 : Vec F S64x1024 .f32) (x8 : Vec F S1024x1024 .f32) (x9 : Vec F S32x1024 .f32) (x10 : Vec F S1024x1024 .f32) (x14 : Vec F S16x1024 .f32)
    (y17 : Vec F S4x1x1024 .f32) (s1 : Vec F S3072x1024 .bf16) : Vec F S4x1x1024 .f32 :=
  if cond0_6 i then bias0 x2 x3 x4 x5 x6 x7 x8 x9 x10 x14 s1 else y17

/-- The running sum of the three middle blocks (the first scratch buffer). -/
def sum0 (i : grid0.Coords) (x0 : Vec F S6 .f32) (x1 : Vec F S1024x1024 .f32) (s0 : Vec F S1024x1024 .f32) : Vec F S1024x1024 .f32 :=
  if cond0_3 i then k0_pay2 (k0_pay23 i x0 x1) else if cond0_4 i then k0_pay4 (k0_pay23 i x0 x1) s0
  else if cond0_5 i then k0_pay6 (k0_pay23 i x0 x1) s0 else s0

/-- The three middle blocks, one under the other (the second scratch buffer). -/
def stash0 (i : grid0.Coords) (x0 : Vec F S6 .f32) (x1 : Vec F S1024x1024 .f32) (s1 : Vec F S3072x1024 .bf16) : Vec F S3072x1024 .bf16 :=
  if cond0_3 i then (Rect.unit (s := S3072x1024) ![0, 0] S1024x1024.size inb_S3072x1024_S1024x1024_0_0).overlay s1 (k0_pay3 (k0_pay24 i x0 x1))
  else if cond0_4 i then (Rect.unit (s := S3072x1024) ![1024, 0] S1024x1024.size inb_S3072x1024_S1024x1024_1024_0).overlay s1 (k0_pay5 (k0_pay24 i x0 x1))
  else if cond0_5 i then (Rect.unit (s := S3072x1024) ![2048, 0] S1024x1024.size inb_S3072x1024_S1024x1024_2048_0).overlay s1 (k0_pay7 (k0_pay24 i x0 x1))
  else s1

/-- Which branches are taken, at one of the six points. -/
def Sig0 (i : grid0.Coords) : Prop :=
  (cond0_0 i ∧ cond0_1 i ∧ ¬cond0_2 i ∧ ¬cond0_3 i ∧ ¬cond0_4 i ∧ ¬cond0_5 i ∧ ¬cond0_6 i)
  ∨ (cond0_0 i ∧ ¬cond0_1 i ∧ cond0_2 i ∧ ¬cond0_3 i ∧ ¬cond0_4 i ∧ ¬cond0_5 i ∧ ¬cond0_6 i)
  ∨ (¬cond0_0 i ∧ ¬cond0_1 i ∧ ¬cond0_2 i ∧ cond0_3 i ∧ ¬cond0_4 i ∧ ¬cond0_5 i ∧ ¬cond0_6 i)
  ∨ (¬cond0_0 i ∧ ¬cond0_1 i ∧ ¬cond0_2 i ∧ ¬cond0_3 i ∧ cond0_4 i ∧ ¬cond0_5 i ∧ ¬cond0_6 i)
  ∨ (¬cond0_0 i ∧ ¬cond0_1 i ∧ ¬cond0_2 i ∧ ¬cond0_3 i ∧ ¬cond0_4 i ∧ cond0_5 i ∧ ¬cond0_6 i)
  ∨ (cond0_0 i ∧ ¬cond0_1 i ∧ ¬cond0_2 i ∧ ¬cond0_3 i ∧ ¬cond0_4 i ∧ ¬cond0_5 i ∧ cond0_6 i)

theorem sig0 (t : Fin cfg0.N) : Sig0 (grid0.coords t) := by
  have ht : t.val < 6 := Nat.lt_of_lt_of_eq t.isLt N_0
  unfold Sig0
  rw [hcond0_0 t, hcond0_1 t, hcond0_2 t, hcond0_3 t, hcond0_4 t, hcond0_5 t, hcond0_6 t]
  omega

variable (c : Dev nD) (i : grid0.Coords)
  (arg1 : Memref sig .tc .vmem S6 .f32) (harg1 : arg1.IsWhole)
  (arg2 : Memref sig .tc .vmem S1024x1024 .f32) (harg2 : arg2.IsWhole)
  (arg3 : Memref sig .tc .vmem S4x512 .f32) (harg3 : arg3.IsWhole)
  (arg4 : Memref sig .tc .vmem S4x64 .f32) (harg4 : arg4.IsWhole)
  (arg5 : Memref sig .tc .vmem S4x32 .f32) (harg5 : arg5.IsWhole)
  (arg6 : Memref sig .tc .vmem S512x1024 .f32) (harg6 : arg6.IsWhole)
  (arg7 : Memref sig .tc .vmem S1024x1024 .f32) (harg7 : arg7.IsWhole)
  (arg8 : Memref sig .tc .vmem S64x1024 .f32) (harg8 : arg8.IsWhole)
  (arg9 : Memref sig .tc .vmem S1024x1024 .f32) (harg9 : arg9.IsWhole)
  (arg10 : Memref sig .tc .vmem S32x1024 .f32) (harg10 : arg10.IsWhole)
  (arg11 : Memref sig .tc .vmem S1024x1024 .f32) (harg11 : arg11.IsWhole)
  (arg12 : Memref sig .tc .vmem S5x1024 .f32) (harg12 : arg12.IsWhole)
  (arg13 : Memref sig .tc .vmem S5x1024 .f32) (harg13 : arg13.IsWhole)
  (arg14 : Memref sig .tc .vmem S3x1024 .f32) (harg14 : arg14.IsWhole)
  (arg15 : Memref sig .tc .vmem S16x1024 .f32) (harg15 : arg15.IsWhole)
  (arg16 : Memref sig .tc .vmem S1024x1024 .bf16) (harg16 : arg16.IsWhole)
  (arg17 : Memref sig .tc .vmem S24x1024 .f32) (harg17 : arg17.IsWhole)
  (arg18 : Memref sig .tc .vmem S4x1x1024 .f32) (harg18 : arg18.IsWhole)
  (arg19 : Memref sig .tc .vmem S1024x1024 .f32) (harg19 : arg19.IsWhole)
  (arg20 : Memref sig .tc .vmem S3072x1024 .bf16) (harg20 : arg20.IsWhole)
  (x0 : Vec F S6 .f32)
  (x1 : Vec F S1024x1024 .f32)
  (x2 : Vec F S4x512 .f32)
  (x3 : Vec F S4x64 .f32)
  (x4 : Vec F S4x32 .f32)
  (x5 : Vec F S512x1024 .f32)
  (x6 : Vec F S1024x1024 .f32)
  (x7 : Vec F S64x1024 .f32)
  (x8 : Vec F S1024x1024 .f32)
  (x9 : Vec F S32x1024 .f32)
  (x10 : Vec F S1024x1024 .f32)
  (x11 : Vec F S5x1024 .f32)
  (x12 : Vec F S5x1024 .f32)
  (x13 : Vec F S3x1024 .f32)
  (x14 : Vec F S16x1024 .f32)
  (y15 : Vec F S1024x1024 .bf16) (y16 : Vec F S24x1024 .f32) (y17 : Vec F S4x1x1024 .f32) (s0 : Vec F S1024x1024 .f32) (s1 : Vec F S3072x1024 .bf16)

set_option maxHeartbeats 4000000 in
/-- One run of the body, whichever the point: the inputs stay, the three results and the two scratch buffers become what the functions above say. -/
theorem body0 (hs : Sig0 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare y15 ∗ owns (c : Thread nD τ) arg17 fullShare y16 ∗ owns (c : Thread nD τ) arg18 fullShare y17 ∗ owns (c : Thread nD τ) arg19 fullShare s0 ∗ owns (c : Thread nD τ) arg20 fullShare s1
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 i x0 x1 y15 s0) ∗ owns (c : Thread nD τ) arg17 fullShare (out0_16 i x0 x1 x11 x12 x13 y16) ∗ owns (c : Thread nD τ) arg18 fullShare (out0_17 i x2 x3 x4 x5 x6 x7 x8 x9 x10 x14 y17 s1) ∗ owns (c : Thread nD τ) arg19 fullShare (sum0 i x0 x1 s0) ∗ owns (c : Thread nD τ) arg20 fullShare (stash0 i x0 x1 s1)) -∗ K ⟨⟩))
    ⊢ wp frame (wpE (defs₀ (F := F)) Variants.none c none) E (cc0_weights_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_weights_prep_eq_skeleton]; unfold cc0_weights_prep_skel
  simp only [k0_part4_eq_skeleton, k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
  rcases hs with ⟨hc0, hc1, hc2, hc3, hc4, hc5, hc6⟩ | ⟨hc0, hc1, hc2, hc3, hc4, hc5, hc6⟩ | ⟨hc0, hc1, hc2, hc3, hc4, hc5, hc6⟩
    | ⟨hc0, hc1, hc2, hc3, hc4, hc5, hc6⟩ | ⟨hc0, hc1, hc2, hc3, hc4, hc5, hc6⟩ | ⟨hc0, hc1, hc2, hc3, hc4, hc5, hc6⟩
  all_goals
    sl_exec (disch := first | sl_exact hc0 | sl_exact hc1 | sl_exact hc2 | sl_exact hc3 | sl_exact hc4 | sl_exact hc5 | sl_exact hc6)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    on_goal 1 =>
      iexists _
      isplitr
      rotate_left 1
      iexact H16
    rotate_left 1
    isplitl [H17]
    on_goal 1 =>
      iexists _
      isplitr
      rotate_left 1
      iexact H17
    rotate_left 1
    isplitl [H18]
    on_goal 1 =>
      iexists _
      isplitr
      rotate_left 1
      iexact H18
    rotate_left 1
    isplitl [H19]
    on_goal 1 =>
      iexists _
      isplitr
      rotate_left 1
      iexact H19
    rotate_left 1
    iexists _
    isplitr
    rotate_left 1
    iexact H20
  all_goals ipureintro
  all_goals try delta body0.sl.r body0.sl.r_1 body0.sl.r_2 body0.sl.r_3 body0.sl.r_4 body0.sl.r_5 body0.sl.r_6 body0.sl.r_7 body0.sl.r_8 body0.sl.r_9 body0.sl.r_10 body0.sl.r_11 body0.sl.r_12 body0.sl.r_13 body0.sl.r_14 body0.sl.r_15 body0.sl.r_16 body0.sl.r_17 body0.sl.r_18 body0.sl.r_19 body0.sl.r_20 body0.sl.r_21 body0.sl.r_22 body0.sl.r_23
  all_goals try delta body0.sl.r body0.sl.r_1 body0.sl.r_2 body0.sl.r_3 body0.sl.r_4 body0.sl.r_5 body0.sl.r_6 body0.sl.r_7 body0.sl.r_8 body0.sl.r_9 body0.sl.r_10 body0.sl.r_11 body0.sl.r_12 body0.sl.r_13 body0.sl.r_14 body0.sl.r_15 body0.sl.r_16 body0.sl.r_17 body0.sl.r_18 body0.sl.r_19 body0.sl.r_20 body0.sl.r_21 body0.sl.r_22 body0.sl.r_23
  all_goals try delta body0.sl.r body0.sl.r_1 body0.sl.r_2 body0.sl.r_3 body0.sl.r_4 body0.sl.r_5 body0.sl.r_6 body0.sl.r_7 body0.sl.r_8 body0.sl.r_9 body0.sl.r_10 body0.sl.r_11 body0.sl.r_12 body0.sl.r_13 body0.sl.r_14 body0.sl.r_15 body0.sl.r_16 body0.sl.r_17 body0.sl.r_18 body0.sl.r_19 body0.sl.r_20 body0.sl.r_21 body0.sl.r_22 body0.sl.r_23
  all_goals try delta body0.sl.v63
  all_goals try delta body0.sl.H19_1
  all_goals try delta body0.sl.r body0.sl.r_1 body0.sl.r_2 body0.sl.r_3 body0.sl.r_4 body0.sl.r_5 body0.sl.r_6 body0.sl.r_7 body0.sl.r_8 body0.sl.r_9 body0.sl.r_10 body0.sl.r_11 body0.sl.r_12 body0.sl.r_13 body0.sl.r_14 body0.sl.r_15 body0.sl.r_16 body0.sl.r_17 body0.sl.r_18 body0.sl.r_19 body0.sl.r_20 body0.sl.r_21 body0.sl.r_22 body0.sl.r_23
  all_goals simp only [cond0_0, cond0_1, cond0_2, cond0_3, cond0_4, cond0_5, cond0_6] at hc0 hc1 hc2 hc3 hc4 hc5 hc6
  all_goals try delta body0.sl.cst_51
  all_goals
    simp only [cond0_0, cond0_1, cond0_2, cond0_3, cond0_4, cond0_5, cond0_6, Scalar.ofBits, out0_15, out0_16, out0_17, sum0, stash0, bias0, hc0, hc1, hc2, hc3, hc4, hc5, hc6, if_true, if_false,
      View.readCov, View.readAt_eq_ld, read_writes_cons_overlay, View.writes_nil,
      Memref.IsWhole.read_unread, View.ld_unit_zero (S := S6) off1_zero, View.ld_unit_zero (S := S1024x1024) off2_zero, View.ld_unit_zero (S := S4x512) off2_zero,
      View.ld_unit_zero (S := S4x64) off2_zero, View.ld_unit_zero (S := S4x32) off2_zero, View.ld_unit_zero (S := S512x1024) off2_zero,
      View.ld_unit_zero (S := S64x1024) off2_zero, View.ld_unit_zero (S := S32x1024) off2_zero, View.ld_unit_zero (S := S5x1024) off2_zero,
      View.ld_unit_zero (S := S3x1024) off2_zero, View.ld_unit_zero (S := S3072x1024) off2_zero, overlay_unit_zero (S := S1024x1024) off2_zero,
      overlay_unit_zero (S := S4x1x1024) off3_zero]

end Cert.Weights

end

end
-- ==== Proof.WeightsRun.lean ====
module

public import proofs.«01_k».proof.Proof.WeightsBody
public import Idealize.ShloMosaic.Lib.Pipeline.ArrRel
public import Idealize.ShloMosaic.Lib.Claim

/-! The call `weights_prep` over all six points: what its buffers hold between them, and the launch. -/

@[expose] public section

set_option maxRecDepth 16384

noncomputable section

namespace Cert.Weights

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers before each point -/

/-- The running sum before point `n`, if the buffer held `z` at first. -/
def sumAt (c : Dev nD) (z : Vec F S1024x1024 .f32) : ℕ → Vec F S1024x1024 .f32
  | 0 => z
  | n + 1 => if h : n < cfg0.N then sum0 (grid0.coords ⟨n, h⟩) (iblk m c 0 ⟨n, h⟩) (iblk m c 1 ⟨n, h⟩) (sumAt c z n) else sumAt c z n

/-- The stash of cast blocks before point `n`, if the buffer held `z` at first. -/
def stashAt (c : Dev nD) (z : Vec F S3072x1024 .bf16) : ℕ → Vec F S3072x1024 .bf16
  | 0 => z
  | n + 1 => if h : n < cfg0.N then stash0 (grid0.coords ⟨n, h⟩) (iblk m c 0 ⟨n, h⟩) (iblk m c 1 ⟨n, h⟩) (stashAt c z n) else stashAt c z n

theorem sumAt_succ (c : Dev nD) (z : Vec F S1024x1024 .f32) (t : Fin cfg0.N) :
    sumAt m c z (t.val + 1) = sum0 (grid0.coords t) (iblk m c 0 t) (iblk m c 1 t) (sumAt m c z t.val) := dif_pos t.isLt

theorem stashAt_succ (c : Dev nD) (z : Vec F S3072x1024 .bf16) (t : Fin cfg0.N) :
    stashAt m c z (t.val + 1) = stash0 (grid0.coords t) (iblk m c 0 t) (iblk m c 1 t) (stashAt m c z t.val) := dif_pos t.isLt

/-! ## The proof data -/

/-- What point `t` leaves in a window's buffer (`X`) where it found `Y`: an input is kept; the results are the functions of
    WeightsBody.lean, the scratch buffers being what the points before have made of some first contents. -/
def leaves (c : Dev nD) : (w : Fin 18) → (t : Fin cfg0.N) → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun _ Y X => X = Y
  | 10 => fun _ Y X => X = Y
  | 11 => fun _ Y X => X = Y
  | 12 => fun _ Y X => X = Y
  | 13 => fun _ Y X => X = Y
  | 14 => fun _ Y X => X = Y
  | 15 => fun t Y X => ∃ z, X = out0_15 (grid0.coords t) (iblk m c 0 t) (iblk m c 1 t) Y (sumAt m c z t.val)
  | 16 => fun t Y X => X = out0_16 (grid0.coords t) (iblk m c 0 t) (iblk m c 1 t) (iblk m c 11 t) (iblk m c 12 t) (iblk m c 13 t) Y
  | 17 => fun t Y X => ∃ z, X = out0_17 (grid0.coords t) (iblk m c 2 t) (iblk m c 3 t) (iblk m c 4 t) (iblk m c 5 t) (iblk m c 6 t) (iblk m c 7 t)
      (iblk m c 8 t) (iblk m c 9 t) (iblk m c 10 t) (iblk m c 14 t) Y (stashAt m c z t.val)
  | ⟨_ + 18, h⟩ => absurd h (Nat.not_lt.2 (Nat.le_add_left _ _))

/-- The two scratch buffers before point `n`, and the generator's register. -/
def scratch (c : Dev nD) (n : ℕ) : sProp 𝕄 :=
  iprop((∃ z, owns (c : Thread nD τ) (Memref.whole cc0_scratch0) fullShare (sumAt m c z n))
    ∗ (∃ z, owns (c : Thread nD τ) (Memref.whole cc0_scratch1) fullShare (stashAt m c z n)) ∗ ∃ r, prngReg c r)

/-- The proof data on core `c`. -/
def data (c : Dev nD) : RDat τ (Elt F) Unit ℕ (UR sig nD τ) ℕ cfg0 c where
  A w := V m c (Pipeline.arrRef spec0 w)
  after w t Y X := leaves m c w t Y X
  Φ t := scratch m c t.val
  q _ := fullShare
  owed _ := 0

theorem data_A (c : Dev nD) (w : Fin cfg0.W) : (data m c).A w = V m c (Pipeline.arrRef spec0 w) := rfl

/-- An input's buffer holds its block at every point. -/
theorem finds_input (c : Dev nD) (w : Fin 18) (hw : (cfg0.win w).isOut = false) (hkeep : ∀ t Y X, leaves m c w t Y X → X = Y)
    (hclip : ∀ t t' : Fin cfg0.N, (cfg0.win w).clip (cfg0.grid.coords t) = (cfg0.win w).clip (cfg0.grid.coords t'))
    (t : Fin cfg0.N) (Y) (h : (data m c).Finds w t Y) : ∃ d, Y = (data m c).fetched w t d :=
  RDat.finds_in_eq_fetched (data m c) w hw (fun t t' _ => hclip t t') hkeep t Y h

variable (c : Dev nD) (t : Fin cfg0.N) (Y : (w : Fin cfg0.W) → (cfg0.win w).block.Idx → Elt F (cfg0.win w).elt)

/-- What the body is called with at point `t`, the windows one by one, -/
def bodyPre : sProp 𝕄 :=
  iprop((data m c).Φ t.castSucc ∗ (data m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11)
    ∗ owns (c : Thread nD τ) (st0_12 t) fullShare (Y 12)
    ∗ owns (c : Thread nD τ) (st0_13 t) fullShare (Y 13)
    ∗ owns (c : Thread nD τ) (st0_14 t) fullShare (Y 14)
    ∗ owns (c : Thread nD τ) (st0_15 t) fullShare (Y 15)
    ∗ owns (c : Thread nD τ) (st0_16 t) fullShare (Y 16)
    ∗ owns (c : Thread nD τ) (st0_17 t) fullShare (Y 17))

/-- and what it returns. -/
def bodyPost : sProp 𝕄 :=
  iprop((data m c).Φ t.succ ∗ (data m c).owesAt () t.succ
    ∗ (∃ X, ⌜leaves m c 0 t (Y 0) X⌝ ∗ owns (c : Thread nD τ) (st0_0 t) fullShare X)
    ∗ (∃ X, ⌜leaves m c 1 t (Y 1) X⌝ ∗ owns (c : Thread nD τ) (st0_1 t) fullShare X)
    ∗ (∃ X, ⌜leaves m c 2 t (Y 2) X⌝ ∗ owns (c : Thread nD τ) (st0_2 t) fullShare X)
    ∗ (∃ X, ⌜leaves m c 3 t (Y 3) X⌝ ∗ owns (c : Thread nD τ) (st0_3 t) fullShare X)
    ∗ (∃ X, ⌜leaves m c 4 t (Y 4) X⌝ ∗ owns (c : Thread nD τ) (st0_4 t) fullShare X)
    ∗ (∃ X, ⌜leaves m c 5 t (Y 5) X⌝ ∗ owns (c : Thread nD τ) (st0_5 t) fullShare X)
    ∗ (∃ X, ⌜leaves m c 6 t (Y 6) X⌝ ∗ owns (c : Thread nD τ) (st0_6 t) fullShare X)
    ∗ (∃ X, ⌜leaves m c 7 t (Y 7) X⌝ ∗ owns (c : Thread nD τ) (st0_7 t) fullShare X)
    ∗ (∃ X, ⌜leaves m c 8 t (Y 8) X⌝ ∗ owns (c : Thread nD τ) (st0_8 t) fullShare X)
    ∗ (∃ X, ⌜leaves m c 9 t (Y 9) X⌝ ∗ owns (c : Thread nD τ) (st0_9 t) fullShare X)
    ∗ (∃ X, ⌜leaves m c 10 t (Y 10) X⌝ ∗ owns (c : Thread nD τ) (st0_10 t) fullShare X)
    ∗ (∃ X, ⌜leaves m c 11 t (Y 11) X⌝ ∗ owns (c : Thread nD τ) (st0_11 t) fullShare X)
    ∗ (∃ X, ⌜leaves m c 12 t (Y 12) X⌝ ∗ owns (c : Thread nD τ) (st0_12 t) fullShare X)
    ∗ (∃ X, ⌜leaves m c 13 t (Y 13) X⌝ ∗ owns (c : Thread nD τ) (st0_13 t) fullShare X)
    ∗ (∃ X, ⌜leaves m c 14 t (Y 14) X⌝ ∗ owns (c : Thread nD τ) (st0_14 t) fullShare X)
    ∗ (∃ X, ⌜leaves m c 15 t (Y 15) X⌝ ∗ owns (c : Thread nD τ) (st0_15 t) fullShare X)
    ∗ (∃ X, ⌜leaves m c 16 t (Y 16) X⌝ ∗ owns (c : Thread nD τ) (st0_16 t) fullShare X)
    ∗ (∃ X, ⌜leaves m c 17 t (Y 17) X⌝ ∗ owns (c : Thread nD τ) (st0_17 t) fullShare X))

/-- Nothing is owed, before or after. -/
theorem owes_eq : (data m c).owesAt () t.succ = (data m c).owesAt () t.castSucc := by
  unfold RDat.owesAt RDat.bound
  dsimp only [data]

theorem data_succ : (data m c).Φ t.succ = scratch m c (t.val + 1) := by dsimp only [data, Fin.val_succ]

theorem data_castSucc : (data m c).Φ t.castSucc = scratch m c t.val := by dsimp only [data, Fin.val_castSucc]

set_option maxHeartbeats 4000000 in
/-- The body at any point, from buffers that may be found there. -/
theorem sound_body (hY : ∀ w, (data m c).Finds w t (Y w)) :
    bodyPre m c t Y ⊢ wp frame (wpE (defs₀ (F := F)) Variants.none c none) Set.univ (bodyAt0 t) (fun _ => bodyPost m c t Y) := by
  have e0 : Y 0 = iblk m c 0 t := (finds_input m c 0 rfl (fun _ _ _ h => h) (fun _ _ => rfl) t _ (hY 0)).choose_spec
  have e1 : Y 1 = iblk m c 1 t := (finds_input m c 1 rfl (fun _ _ _ h => h) (fun _ _ => rfl) t _ (hY 1)).choose_spec
  have e2 : Y 2 = iblk m c 2 t := (finds_input m c 2 rfl (fun _ _ _ h => h) (fun _ _ => rfl) t _ (hY 2)).choose_spec
  have e3 : Y 3 = iblk m c 3 t := (finds_input m c 3 rfl (fun _ _ _ h => h) (fun _ _ => rfl) t _ (hY 3)).choose_spec
  have e4 : Y 4 = iblk m c 4 t := (finds_input m c 4 rfl (fun _ _ _ h => h) (fun _ _ => rfl) t _ (hY 4)).choose_spec
  have e5 : Y 5 = iblk m c 5 t := (finds_input m c 5 rfl (fun _ _ _ h => h) (fun _ _ => rfl) t _ (hY 5)).choose_spec
  have e6 : Y 6 = iblk m c 6 t := (finds_input m c 6 rfl (fun _ _ _ h => h) (fun _ _ => rfl) t _ (hY 6)).choose_spec
  have e7 : Y 7 = iblk m c 7 t := (finds_input m c 7 rfl (fun _ _ _ h => h) (fun _ _ => rfl) t _ (hY 7)).choose_spec
  have e8 : Y 8 = iblk m c 8 t := (finds_input m c 8 rfl (fun _ _ _ h => h) (fun _ _ => rfl) t _ (hY 8)).choose_spec
  have e9 : Y 9 = iblk m c 9 t := (finds_input m c 9 rfl (fun _ _ _ h => h) (fun _ _ => rfl) t _ (hY 9)).choose_spec
  have e10 : Y 10 = iblk m c 10 t := (finds_input m c 10 rfl (fun _ _ _ h => h) (fun _ _ => rfl) t _ (hY 10)).choose_spec
  have e11 : Y 11 = iblk m c 11 t := (finds_input m c 11 rfl (fun _ _ _ h => h) (fun _ _ => rfl) t _ (hY 11)).choose_spec
  have e12 : Y 12 = iblk m c 12 t := (finds_input m c 12 rfl (fun _ _ _ h => h) (fun _ _ => rfl) t _ (hY 12)).choose_spec
  have e13 : Y 13 = iblk m c 13 t := (finds_input m c 13 rfl (fun _ _ _ h => h) (fun _ _ => rfl) t _ (hY 13)).choose_spec
  have e14 : Y 14 = iblk m c 14 t := (finds_input m c 14 rfl (fun _ _ _ h => h) (fun _ _ => rfl) t _ (hY 14)).choose_spec
  unfold bodyPre bodyPost bodyAt0
  simp only [owes_eq m c t, data_succ m c t, data_castSucc m c t]
  unfold scratch
  rw [e0, e1, e2, e3, e4, e5, e6, e7, e8, e9, e10, e11, e12, e13, e14]
  iintro ⟨⟨⟨%z0, S0⟩, ⟨%z1, S1⟩, Hg⟩, Ho, H0, H1, H2, H3, H4, H5, H6, H7, H8, H9, H10, H11, H12, H13, H14, H15, H16, H17⟩
  iapply (body0 c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (Y 15) (Y 16) (Y 17) (sumAt m c z0 t.val) (stashAt m c z1 t.val) (sig0 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S0]; · iexact S0
  isplitl [S1]; · iexact S1
  iintro ⟨H0, H1, H2, H3, H4, H5, H6, H7, H8, H9, H10, H11, H12, H13, H14, H15, H16, H17, S0, S1⟩
  isplitl [S0 S1 Hg]
  · isplitl [S0]
    · iexists z0; rw [sumAt_succ]; iexact S0
    isplitl [S1]
    · iexists z1; rw [stashAt_succ]; iexact S1
    iexact Hg
  isplitl [Ho]; · iexact Ho
  isplitl [H0]; · iexists _; isplitr; (ipureintro; exact rfl); iexact H0
  isplitl [H1]; · iexists _; isplitr; (ipureintro; exact rfl); iexact H1
  isplitl [H2]; · iexists _; isplitr; (ipureintro; exact rfl); iexact H2
  isplitl [H3]; · iexists _; isplitr; (ipureintro; exact rfl); iexact H3
  isplitl [H4]; · iexists _; isplitr; (ipureintro; exact rfl); iexact H4
  isplitl [H5]; · iexists _; isplitr; (ipureintro; exact rfl); iexact H5
  isplitl [H6]; · iexists _; isplitr; (ipureintro; exact rfl); iexact H6
  isplitl [H7]; · iexists _; isplitr; (ipureintro; exact rfl); iexact H7
  isplitl [H8]; · iexists _; isplitr; (ipureintro; exact rfl); iexact H8
  isplitl [H9]; · iexists _; isplitr; (ipureintro; exact rfl); iexact H9
  isplitl [H10]; · iexists _; isplitr; (ipureintro; exact rfl); iexact H10
  isplitl [H11]; · iexists _; isplitr; (ipureintro; exact rfl); iexact H11
  isplitl [H12]; · iexists _; isplitr; (ipureintro; exact rfl); iexact H12
  isplitl [H13]; · iexists _; isplitr; (ipureintro; exact rfl); iexact H13
  isplitl [H14]; · iexists _; isplitr; (ipureintro; exact rfl); iexact H14
  isplitl [H15]; · iexists _; isplitr; (ipureintro; exact ⟨z0, rfl⟩); iexact H15
  isplitl [H16]; · iexists _; isplitr; (ipureintro; exact rfl); iexact H16
  iexists _; isplitr; (ipureintro; exact ⟨z1, rfl⟩); iexact H17

/-- The body table's row at point `t`'s slots is the body. -/
theorem defs₀_row : defs₀ (F := F) .tc cfg0.body (cfg0.bodyArgs t (cfg0.slots t)) = bodyAt0 t := by
  unfold defs₀; rw [Defs.onTc_tc]

theorem obligation : (data (F := F) m c).BodyObligation (defs₀ (F := F)) Variants.none () Set.univ := fun t Y hY => by
  rw [bigSep_W0, bigSep_W0, defs₀_row]
  exact triple_restated (sound_body m c t Y hY) rfl .rfl fun _ => .rfl

/-! ## The launch -/

theorem scratch_in : (Pipeline.ΦA spec0 c : sProp 𝕄) ⊢ (data m c).Φ 0 := by
  show _ ⊢ scratch m c 0
  unfold Pipeline.ΦA scratch
  rw [scopedRest0_eq]
  simp only [owns_whole]
  iintro ⟨⟨⟨%f0, H0⟩, ⟨%f1, H1⟩⟩, Hg⟩
  isplitl [H0]; · iexists f0; iexact H0
  isplitl [H1]; · iexists f1; iexact H1
  iexact Hg

theorem scratch_out : (data m c).Φ (Fin.last cfg0.N) ⊢ (Pipeline.ΦA spec0 c : sProp 𝕄) := by
  show scratch m c cfg0.N ⊢ _
  unfold Pipeline.ΦA scratch
  rw [scopedRest0_eq]
  simp only [owns_whole]
  iintro ⟨⟨%z0, H0⟩, ⟨%z1, H1⟩, Hg⟩
  isplitl [H0 H1]
  · isplitl [H0]; · iexists _; iexact H0
    iexists _; iexact H1
  iexact Hg

set_option backward.isDefEq.respectTransparency.types false in
set_option maxHeartbeats 800000 in
/-- The launch: every run ends, every array holds what it may after the write-backs, and every counter is zero. -/
theorem run_main : θ_run defs (onTc (τ := τ) (main (F := F))) (s₀ m ρ)
    (fun r => RDat.FramePost (cfgs 0) (data m) (V m) r ∧ r.2.sem = fun _ => 0) :=
  RDat.θ_run_frame_track (Q' := _) cfgs (0 : Fin 1) launch0 defs₀ Variants.none (data m) m ρ main
    (hbody := obligation m) (hshare := fun c w => by unfold RDat.share data; exact ite_self _)
    (howed := fun _ _ => rfl) (V := V m) (hmain := hmain m Variants.none) (hA := data_A m)
    (hin := scratch_in m) (hout := scratch_out m)

end Cert.Weights

end

end
-- ==== Proof.Row.lean ====
/- One token's row, as both programs compute it: two layer norms, two modulated copies, the projection, the
   gated unit, the second projection and the last layer norm. The layer norm is a parameter, since the two
   programs write its variance differently. -/
module

public import Idealize.ShloMosaic.PureOps.Ideal.Laws

@[expose] public section

noncomputable section

namespace Cert.Row

open Idealize.ShloMosaic

/-- A row of 1024 channels. -/
abbrev R : Type := Fin 1024 → EReal

/-- The sum of a row over the row length. -/
def mean (h : R) : EReal := Ideal.div (∑ k, h k) (Ideal.ofBits .f32 0x44800000#32)

/-- A row brought to mean zero and variance one, the variance taken as the mean of squares less the square of the mean. -/
def normSq (h : R) : R := fun i =>
  (h i - mean h) * Ideal.rsqrt (mean (fun k => h k * h k) - mean h * mean h + Ideal.ofBits .f32 0x3727C5AC#32)

/-- The same, the variance taken as the mean of the squared distances to the mean. -/
def normDist (h : R) : R := fun i =>
  (h i - mean h) * Ideal.rsqrt (mean (fun k => (h k - mean h) * (h k - mean h)) + Ideal.ofBits .f32 0x3727C5AC#32)

/-- The parameters one token meets: its table rows and the weights. -/
structure Params where
  /-- scale and offset of the first norm -/
  pg : R
  pb : R
  /-- scales by compartment, time step and sampling scale -/
  cg : R
  tg : R
  sg : R
  /-- first projection -/
  w : Fin 4096 → R
  /-- shift by the three small ids, and the batch's bias row -/
  sh : R
  bi : R
  /-- second projection, its bias, and the last norm's scale and offset -/
  v : Fin 1024 → R
  vb : R
  og : R
  ob : R

/-- The first norm, scaled and offset. -/
def first (n : R → R) (x : R) (p : Params) : R := fun k => n x k * p.pg k + p.pb k

/-- Four rows side by side. -/
def side (a b c e : R) : Fin 4096 → EReal := fun k =>
  if h : k.val < 1024 then a ⟨k.val, h⟩
  else if h : k.val - 1024 < 1024 then b ⟨k.val - 1024, h⟩
  else if h : k.val - 1024 - 1024 < 1024 then c ⟨k.val - 1024 - 1024, h⟩
  else e ⟨k.val - 1024 - 1024 - 1024, by omega⟩

/-- What goes into the gated unit: the four parts against the first projection, shifted and biased. -/
def pre (n : R → R) (x : R) (p : Params) : R := fun d =>
  (∑ k, side (fun k => n (first n x p) k * p.cg k) (fun k => n x k * p.tg k) (fun k => n x k * p.sg k) x k * p.w k d)
    + p.sh d + p.bi d

/-- The gated unit against the second projection, with its bias. -/
def second (n : R → R) (x : R) (p : Params) : R := fun d =>
  (∑ k, pre n x p k * Ideal.logistic (pre n x p k) * p.v k d) + p.vb d

/-- The whole row. -/
def out (n : R → R) (x : R) (p : Params) : R := fun d => n (second n x p) d * p.og d + p.ob d

/-- The parameters of a token with ids `a`, `c`, `t`, `s`, from the tables, the weights and the bias rows. -/
def params (a : Fin 1024) (c t s : Fin 8) (pw : Fin 1024 → Fin 2048 → EReal) (small : Fin 24 → R) (w : Fin 4096 → R)
    (proj : Fin 24 → R) (v : Fin 1024 → R) (bi : R) (aux : Fin 16 → R) : Params where
  pg := fun k => pw a ⟨k.val, by omega⟩ + 1
  pb := fun k => pw a ⟨1024 + k.val, by omega⟩
  cg := fun k => small ⟨c.val, by omega⟩ k + 1
  tg := fun k => small ⟨8 + t.val, by omega⟩ k + 1
  sg := fun k => small ⟨16 + s.val, by omega⟩ k + 1
  w := w
  sh := fun d => proj ⟨c.val, by omega⟩ d + proj ⟨8 + t.val, by omega⟩ d + proj ⟨16 + s.val, by omega⟩ d
  bi := bi
  v := v
  vb := aux 13
  og := aux 14
  ob := aux 15

end Cert.Row

end
-- ==== Proof.BlockRow.lean ====
/- What one tile of 512 tokens computes: each stage of the kernel body read at one token and one channel. -/
module

public import proofs.«01_k».proof.Proof.Row
public import proofs.«01_k».proof.Proof.Gen.KernelIdeal.Frame
public import Idealize.ShloMosaic.Lib.Pointwise
public import Idealize.ShloMosaic.Lib.WordCmp

@[expose] public section

set_option maxRecDepth 16384

noncomputable section

namespace Cert.KernelIdeal.Block

open Idealize.ShloMosaic Idealize.ShloMosaic.TcCoe Idealize.SL.Sem Cert.KernelIdeal Cert.KernelIdeal.Gen Cert.Row

/-- A choice made by comparing two small words is the choice made by comparing the numbers. -/
theorem select_ofNat (x y : ℕ) (hx : x < 2 ^ 32) (hy : y < 2 ^ 32) (a b : EReal) :
    Scalar.select (IntOp.cmpi .eq (BitVec.ofNat 32 x) (BitVec.ofNat 32 y)) a b = if x = y then a else b := by
  rw [WordCmp.cmpi_eq_ofNat hx hy]
  by_cases h : x = y <;> simp [Scalar.select, h]

/-- A sum that keeps only the row a word names is that row. -/
theorem pick {n : ℕ} (hn : n ≤ 1024) (w : BitVec 32) (a : Fin n) (hw : w = BitVec.ofNat 32 a.val) (f : Fin n → EReal) :
    ∑ x : Fin n, Scalar.select (IntOp.cmpi .eq (BitVec.ofNat 32 x.val) w) (f x) 0 = f a := by
  subst hw
  rw [Finset.sum_eq_single a]
  · rw [select_ofNat _ _ (by omega) (by omega), if_pos rfl]
  · intro x _ hx
    rw [select_ofNat _ _ (by omega) (by omega), if_neg (fun h => hx (Fin.ext h))]
  · exact fun h => absurd (Finset.mem_univ a) h

/-- The mask of three small ids over 24 rows keeps one row in each block of eight. -/
theorem pick_three (u v w : BitVec 32) (c t s : Fin 8) (hu : u = BitVec.ofNat 32 c.val) (hv : v = BitVec.ofNat 32 t.val)
    (hw : w = BitVec.ofNat 32 s.val) (f : Fin 24 → EReal) :
    ∑ x : Fin 24, Scalar.select (IntOp.ori (IntOp.ori (IntOp.cmpi .eq (BitVec.ofNat 32 x.val) u)
        (IntOp.cmpi .eq (IntOp.subi (BitVec.ofNat 32 x.val) 8#32) v)) (IntOp.cmpi .eq (IntOp.subi (BitVec.ofNat 32 x.val) 16#32) w)) (f x) 0
      = f ⟨c.val, by omega⟩ + f ⟨8 + t.val, by omega⟩ + f ⟨16 + s.val, by omega⟩ := by
  have key : ∀ (c t s : Fin 8) (x : Fin 24), (IntOp.ori (IntOp.ori (IntOp.cmpi .eq (BitVec.ofNat 32 x.val) (BitVec.ofNat 32 c.val))
        (IntOp.cmpi .eq (IntOp.subi (BitVec.ofNat 32 x.val) 8#32) (BitVec.ofNat 32 t.val)))
        (IntOp.cmpi .eq (IntOp.subi (BitVec.ofNat 32 x.val) 16#32) (BitVec.ofNat 32 s.val)) = 1)
      ↔ (x.val = c.val ∨ x.val = 8 + t.val ∨ x.val = 16 + s.val) := by
    intro c t s x
    have e : ∀ (y : Fin 24) (z : Fin 8) (o : ℕ), (o = 0 ∨ o = 8 ∨ o = 16) →
        (BitVec.ofNat 32 y.val - BitVec.ofNat 32 o = BitVec.ofNat 32 z.val ↔ y.val = o + z.val) := by
      intro y z o ho
      rw [← BitVec.toNat_inj]
      simp only [BitVec.toNat_sub, BitVec.toNat_ofNat]
      omega
    have e0 := e x c 0 (.inl rfl)
    have e1 := e x t 8 (.inr (.inl rfl))
    have e2 := e x s 16 (.inr (.inr rfl))
    simp only [BitVec.ofNat_eq_ofNat, BitVec.sub_zero, Nat.zero_add] at e0 e1 e2
    have bits : ∀ p q z : Bool, (BitVec.ofBool p ||| BitVec.ofBool q ||| BitVec.ofBool z = 1) ↔ (p = true ∨ q = true ∨ z = true) := by decide
    simp only [WordCmp.cmpi_eq_eq, IntOp.subi, IntOp.ori, bits, decide_eq_true_iff, e0, e1, e2]
  subst hu hv hw
  have split : ∀ x : Fin 24, Scalar.select (IntOp.ori (IntOp.ori (IntOp.cmpi .eq (BitVec.ofNat 32 x.val) (BitVec.ofNat 32 c.val))
        (IntOp.cmpi .eq (IntOp.subi (BitVec.ofNat 32 x.val) 8#32) (BitVec.ofNat 32 t.val)))
        (IntOp.cmpi .eq (IntOp.subi (BitVec.ofNat 32 x.val) 16#32) (BitVec.ofNat 32 s.val))) (f x) 0
      = (if x = ⟨c.val, by omega⟩ then f x else 0) + (if x = ⟨8 + t.val, by omega⟩ then f x else 0)
        + (if x = ⟨16 + s.val, by omega⟩ then f x else 0) := by
    intro x
    simp only [Scalar.select, key, Fin.ext_iff]
    have := c.isLt; have := t.isLt
    by_cases h0 : x.val = c.val
    · rw [if_pos (.inl h0), if_pos h0, if_neg (by omega), if_neg (by omega), add_zero, add_zero]
    · by_cases h1 : x.val = 8 + t.val
      · rw [if_pos (.inr (.inl h1)), if_neg h0, if_pos h1, if_neg (by omega), add_zero, zero_add]
      · by_cases h2 : x.val = 16 + s.val
        · rw [if_pos (.inr (.inr h2)), if_neg h0, if_neg h1, if_pos h2, zero_add, zero_add]
        · rw [if_neg (by omega), if_neg h0, if_neg h1, if_neg h2, zero_add, zero_add]
  rw [Finset.sum_congr rfl fun x _ => split x, Finset.sum_add_distrib, Finset.sum_add_distrib]
  simp only [Finset.sum_ite_eq', Finset.mem_univ, if_true]

/-- The plain norm of the token. -/
theorem pay7_at (v0 : Vec Ideal S1x512x1024 .f32) (r : Fin 512) (d : Fin 1024) :
    k0_pay7 (F := Ideal) v0 (ix2 r d) = normSq (fun k => v0 (ix3 0 r k)) d := by
  pointwise [k0_pay7, k0_pay2, normSq, mean]

/-- The table row of the token's first id. -/
theorem pay8_at (v2 : Vec Ideal S1x1x4x512 .i32) (v33 : Vec Ideal S1024x2048 .bf16) (r : Fin 512) (d : Fin 2048)
    (a : Fin 1024) (ha : v2 (ix4 0 0 0 r) = BitVec.ofNat 32 a.val) :
    k0_pay8 (F := Ideal) v2 v33 (ix2 r d) = v33 (ix2 a d) := by
  pointwise [k0_pay8, k0_pay3]
  exact pick (by omega) _ a ha fun x => v33 (ix2 x d)

/-- The second norm, of the first scaled and offset. -/
theorem pay11_at (v0 : Vec Ideal S1x512x1024 .f32) (v2 : Vec Ideal S1x1x4x512 .i32) (v33 : Vec Ideal S1024x2048 .bf16)
    (r : Fin 512) (d : Fin 1024) (a : Fin 1024) (ha : v2 (ix4 0 0 0 r) = BitVec.ofNat 32 a.val) :
    k0_pay11 (F := Ideal) (k0_pay9 v0 v2 v33) (k0_pay10 v2 v33) (ix2 r d)
      = normSq (fun k => normSq (fun k => v0 (ix3 0 r k)) k * (v33 (ix2 a ⟨k.val, by omega⟩) + 1) + v33 (ix2 a ⟨1024 + k.val, by omega⟩)) d := by
  have h : ∀ x y : FVec Ideal S512x1024 .f32, k0_pay11 (F := Ideal) x y (ix2 r d) = normSq (fun k => x (ix2 r k) + y (ix2 r k)) d := by
    intro x y
    pointwise [k0_pay11, normSq, mean]
  rw [h]
  congr 1
  funext k
  pointwise [k0_pay9, k0_pay10]
  rw [pay7_at, pay8_at _ _ _ _ a ha, pay8_at _ _ _ _ a ha]

/-- The table rows of the second and third ids. -/
theorem pay13_at (v5 : IVec S1x512 32) (v78 : Vec Ideal S8x1024 .bf16) (r : Fin 512) (d : Fin 1024) (c : Fin 8)
    (hc : v5 (ix2 0 r) = BitVec.ofNat 32 c.val) : k0_pay13 (F := Ideal) v5 v78 (ix2 r d) = v78 (ix2 c d) := by
  pointwise [k0_pay13]
  exact pick (by omega) _ c hc fun x => v78 (ix2 x d)

theorem pay14_at (v6 : IVec S1x512 32) (v80 : Vec Ideal S8x1024 .bf16) (r : Fin 512) (d : Fin 1024) (t : Fin 8)
    (ht : v6 (ix2 0 r) = BitVec.ofNat 32 t.val) : k0_pay14 (F := Ideal) v6 v80 (ix2 r d) = v80 (ix2 t d) := by
  pointwise [k0_pay14]
  exact pick (by omega) _ t ht fun x => v80 (ix2 x d)

/-- What goes into the gated unit. -/
theorem pay15_at (v1 : FVec Ideal S512x1024 .f32) (v5 v6 v7 : IVec S1x512 32) (v25 v58 v79 v81 : FVec Ideal S512x1024 .f32)
    (v82 : Vec Ideal S8x1024 .bf16) (v109 : Vec Ideal S24x1024 .f32) (v116 : Vec Ideal S4096x1024 .bf16)
    (v119 : Vec Ideal S1x1x1024 .f32) (r : Fin 512) (d : Fin 1024) (c t s : Fin 8)
    (hc : v5 (ix2 0 r) = BitVec.ofNat 32 c.val) (ht : v6 (ix2 0 r) = BitVec.ofNat 32 t.val) (hs : v7 (ix2 0 r) = BitVec.ofNat 32 s.val) :
    k0_pay15 (F := Ideal) v1 v5 v6 v7 v25 v58 (k0_pay12 v7) v79 v81 v82 v109 v116 v119 (ix2 r d)
      = (∑ k, side (fun k => v58 (ix2 r k) * (v79 (ix2 r k) + 1)) (fun k => v25 (ix2 r k) * (v81 (ix2 r k) + 1))
            (fun k => v25 (ix2 r k) * (v82 (ix2 s k) + 1)) (fun k => v1 (ix2 r k)) k * v116 (ix2 k d))
        + (v109 (ix2 ⟨c.val, by omega⟩ d) + v109 (ix2 ⟨8 + t.val, by omega⟩ d) + v109 (ix2 ⟨16 + s.val, by omega⟩ d)) + v119 (ix3 0 0 d) := by
  pointwise [k0_pay15, k0_pay12, side]
  rw [pick_three _ _ _ c t s hc ht hs fun x => v109 (ix2 x d)]
  have e : ∀ j : Fin 1024, ∑ x : Fin 8, Scalar.select (IntOp.cmpi .eq (BitVec.ofNat 32 x.val) (v7 (ix2 0 r))) (v82 (ix2 x j)) 0 = v82 (ix2 s j) :=
    fun j => pick (by omega) _ s hs fun x => v82 (ix2 x j)
  simp only [e]

/-- The second projection and the last norm. -/
theorem pay1_at (v122 v123 : FVec Ideal S512x1024 .f32) (v126 : Vec Ideal S1024x1024 .bf16) (v128 v149 v152 : Vec Ideal S1x1024 .f32) (r : Fin 512) (d : Fin 1024) :
    k0_pay1 (F := Ideal) v122 v123 v126 v128 v149 v152 (ix3 0 r d)
      = normSq (fun d => (∑ k, v122 (ix2 r k) * v123 (ix2 r k) * v126 (ix2 k d)) + v128 (ix2 0 d)) d * v149 (ix2 0 d) + v152 (ix2 0 d) := by
  pointwise [k0_pay1, normSq, mean]

/-- The tile at one token and channel: the row of the token. -/
theorem out_at (x0 : Vec Ideal S1x512x1024 .f32) (x1 : Vec Ideal S1x1x4x512 .i32) (x2 : Vec Ideal S1024x2048 .bf16) (x3 : Vec Ideal S24x1024 .bf16)
    (x4 : Vec Ideal S4096x1024 .bf16) (x5 : Vec Ideal S24x1024 .f32) (x6 : Vec Ideal S1024x1024 .bf16) (x7 : Vec Ideal S1x1x1024 .f32)
    (x8 : Vec Ideal S16x1024 .f32) (r : Fin 512) (d : Fin 1024) (a : Fin 1024) (c t s : Fin 8)
    (ha : x1 (ix4 0 0 0 r) = BitVec.ofNat 32 a.val) (hc : x1 (ix4 0 0 1 r) = BitVec.ofNat 32 c.val)
    (ht : x1 (ix4 0 0 2 r) = BitVec.ofNat 32 t.val) (hs : x1 (ix4 0 0 3 r) = BitVec.ofNat 32 s.val) :
    out0_9 (F := Ideal) x0 x1 x2 x3 x4 x5 x6 x7 x8 (ix3 0 r d)
      = out normSq (fun k => x0 (ix3 0 r k)) (params a c t s (fun i k => x2 (ix2 i k)) (fun i k => x3 (ix2 i k)) (fun i k => x4 (ix2 i k))
          (fun i k => x5 (ix2 i k)) (fun i k => x6 (ix2 i k)) (fun k => x7 (ix3 0 0 k)) (fun i k => x8 (ix2 i k))) d := by
  unfold out0_9 k0_pay25 k0_pay24 k0_pay23 k0_pay22 k0_pay21 k0_pay20 k0_pay19 k0_pay18 k0_pay17
  have z2 : (![0, 0] : Fin 2 → ℕ) = fun _ => 0 := by funext i; fin_cases i <;> rfl
  have z3 : (![0, 0, 0] : Fin 3 → ℕ) = fun _ => 0 := by funext i; fin_cases i <;> rfl
  have z4 : (![0, 0, 0, 0] : Fin 4 → ℕ) = fun _ => 0 := by funext i; fin_cases i <;> rfl
  have l0 : View.ld x0 r0_0 = x0 := View.ld_unit_zero (S := S1x512x1024) z3 _ _
  have l1 : View.ld x1 r0_1 = x1 := View.ld_unit_zero (S := S1x1x4x512) z4 _ _
  have l2 : View.ld x2 r0_2 = x2 := View.ld_unit_zero (S := S1024x2048) z2 _ _
  have l5 : View.ld x5 r0_6 = x5 := View.ld_unit_zero (S := S24x1024) z2 _ _
  have l4 : View.ld x4 r0_7 = x4 := View.ld_unit_zero (S := S4096x1024) z2 _ _
  have l7 : View.ld x7 r0_8 = x7 := View.ld_unit_zero (S := S1x1x1024) z3 _ _
  have l6 : View.ld x6 r0_9 = x6 := View.ld_unit_zero (S := S1024x1024) z2 _ _
  rw [View.canon_unit_zero (S := S1x512x1024) z3, pay1_at, l0, l1, l2, l5, l4, l7, l6]
  have hc' : k0_pay4 (F := Ideal) x1 (ix2 0 r) = BitVec.ofNat 32 c.val := by pointwise [k0_pay4, k0_pay3]; exact hc
  have ht' : k0_pay5 (F := Ideal) x1 (ix2 0 r) = BitVec.ofNat 32 t.val := by pointwise [k0_pay5, k0_pay3]; exact ht
  have hs' : k0_pay6 (F := Ideal) x1 (ix2 0 r) = BitVec.ofNat 32 s.val := by pointwise [k0_pay6, k0_pay3]; exact hs
  have hp : ∀ k : Fin 1024, k0_pay15 (F := Ideal) (k0_pay2 x0) (k0_pay4 x1) (k0_pay5 x1) (k0_pay6 x1) (k0_pay7 x0)
      (k0_pay11 (k0_pay9 x0 x1 x2) (k0_pay10 x1 x2)) (k0_pay12 (k0_pay6 x1)) (k0_pay13 (k0_pay4 x1) (View.ld x3 r0_3))
      (k0_pay14 (k0_pay5 x1) (View.ld x3 r0_4)) (View.ld x3 r0_5) x5 x4 x7 (ix2 r k)
      = pre normSq (fun k => x0 (ix3 0 r k)) (params a c t s (fun i k => x2 (ix2 i k)) (fun i k => x3 (ix2 i k)) (fun i k => x4 (ix2 i k))
          (fun i k => x5 (ix2 i k)) (fun i k => x6 (ix2 i k)) (fun k => x7 (ix3 0 0 k)) (fun i k => x8 (ix2 i k))) k := by
    intro k
    rw [pay15_at _ _ _ _ _ _ _ _ _ _ _ _ _ _ c t s hc' ht' hs']
    simp only [pay13_at _ _ _ _ c hc', pay14_at _ _ _ _ t ht', pay11_at _ _ _ _ _ a ha, pay7_at]
    pointwise [k0_pay2, pre, params]
    rfl
  unfold out second
  pointwise [k0_pay16, hp]
  rfl

end Cert.KernelIdeal.Block
end
-- ==== Proof.WeightsRow.lean ====
/- What the call `weights_prep` is to compute, entry by entry: the six shares, and the row a state branch makes of a state. -/
module

public import proofs.«01_k».proof.Proof.Row

@[expose] public section

noncomputable section

namespace Cert.WeightsRow

open Idealize.ShloMosaic Cert.Row

/-- The largest of six numbers, as a fold from the least float. -/
def top (a : Fin 6 → EReal) : EReal := Finset.fold max (Ideal.ofBits .f32 0xFF800000#32) a Finset.univ

/-- Each number's share: its exponential over the sum of all six. -/
def share (a : Fin 6 → EReal) (k : Fin 6) : EReal := Ideal.div (Ideal.exp (a k - top a)) (∑ j, Ideal.exp (a j - top a))

/-- Taking the largest with the fold's start once more changes nothing. -/
theorem max_top (a : Fin 6 → EReal) :
    max (Ideal.ofBits .f32 0xFF800000#32) (Finset.fold max (Ideal.ofBits .f32 0xFF800000#32) a Finset.univ) = top a :=
  max_eq_right ((Finset.le_fold_max _).2 (.inl le_rfl))

/-- A first layer of a state's `n` numbers. -/
def gateIn {n : ℕ} (x : Fin n → EReal) (w : Fin n → R) (b : R) : R := fun k => (∑ j, x j * w j k) + b k

/-- The gated first layer against the second. -/
def gated {n : ℕ} (x : Fin n → EReal) (w : Fin n → R) (b : R) (v : Fin 1024 → R) (vb : R) : R := fun d =>
  (∑ k, gateIn x w b k * Ideal.logistic (gateIn x w b k) * v k d) + vb d

/-- A state branch: both layers and the layer norm. -/
def branch {n : ℕ} (x : Fin n → EReal) (w : Fin n → R) (b : R) (v : Fin 1024 → R) (vb g be : R) : R := fun d =>
  normDist (gated x w b v vb) d * g d + be d

/-- Three rows side by side. -/
def side3 (a b c : R) : Fin 3072 → EReal := fun k =>
  if h : k.val < 1024 then a ⟨k.val, h⟩
  else if h : k.val - 1024 < 1024 then b ⟨k.val - 1024, h⟩
  else c ⟨k.val - 1024 - 1024, by omega⟩

end Cert.WeightsRow
end
-- ==== Proof.WeightsBlock.lean ====
/- What one point of the call `weights_prep` computes, read at one entry. -/
module

public import proofs.«01_k».proof.Proof.BlockRow
public import proofs.«01_k».proof.Proof.WeightsRow
public import proofs.«01_k».proof.Proof.WeightsBody

@[expose] public section

set_option maxRecDepth 16384

noncomputable section

namespace Cert.Weights

open Idealize.ShloMosaic Cert.Kernel3Ideal Cert.Kernel3Ideal.Gen Cert.Row Cert.WeightsRow

variable (i : grid0.Coords) (x0 : Vec Ideal S6 .f32) (x1 : Vec Ideal S1024x1024 .f32)

/-- A point's block of weights is scaled by the point's share. -/
theorem pay23_at (g : Fin 6) (hg : (i 0).val = g.val) (r d : Fin 1024) :
    k0_pay23 (F := Ideal) i x0 x1 (ix2 r d) = x1 (ix2 r d) * share (fun j => x0 (ix1 j)) g := by
  pointwise [k0_pay23]
  rw [hg]
  exact congrArg _ (Cert.KernelIdeal.Block.pick (by omega) _ g rfl _)

theorem pay24_at (g : Fin 6) (hg : (i 0).val = g.val) (r d : Fin 1024) :
    k0_pay24 (F := Ideal) i x0 x1 (ix2 r d) = x1 (ix2 r d) * share (fun j => x0 (ix1 j)) g := by
  pointwise [k0_pay24]
  exact pay23_at i x0 x1 g hg r d

/-- Rows padded with zeros to eight, against a block of weights. -/
theorem pay1_at (w : FVec Ideal S1024x1024 .bf16) (x : Vec Ideal S5x1024 .f32) (r : Fin 8) (d : Fin 1024) :
    k0_pay1 (F := Ideal) w x (ix2 r d) = if h : r.val < 5 then ∑ k : Fin 1024, x (ix2 ⟨r.val, h⟩ k) * w (ix2 k d) else 0 := by
  pointwise [k0_pay1]
  by_cases h : r.val < 5 <;> simp [h]

theorem pay25_at (x : Vec Ideal S5x1024 .f32) (r : Fin 8) (d : Fin 1024) : k0_pay25 (F := Ideal) i x0 x1 x (ix2 r d)
    = if h : r.val < 5 then ∑ k : Fin 1024, x (ix2 ⟨r.val, h⟩ k) * k0_pay24 (F := Ideal) i x0 x1 (ix2 k d) else 0 :=
  pay1_at (k0_pay24 i x0 x1) x r d

theorem pay10_at (w : FVec Ideal S1024x1024 .bf16) (x : Vec Ideal S3x1024 .f32) (r : Fin 8) (d : Fin 1024) :
    k0_pay10 (F := Ideal) w x (ix2 r d) = if h : r.val < 3 then ∑ k : Fin 1024, x (ix2 ⟨r.val, h⟩ k) * w (ix2 k d) else 0 := by
  pointwise [k0_pay10]
  by_cases h : r.val < 3 <;> simp [h]

/-- The state branches: the layer norm of the gated unit. -/
theorem memory_at (x2 : Vec Ideal S4x512 .f32) (x5 : Vec Ideal S512x1024 .f32) (b : Vec Ideal S1x1024 .f32) (x6 : Vec Ideal S1024x1024 .f32)
    (vb g be : Vec Ideal S1x1024 .f32) (r : Fin 4) (d : Fin 1024) :
    k0_pay14 (F := Ideal) (k0_pay11 g) (k0_pay12 be) (k0_pay13 x2 x5 b x6 vb) (ix2 r d)
      = branch (fun j => x2 (ix2 r j)) (fun j k => x5 (ix2 j k)) (fun k => b (ix2 0 k)) (fun k d => x6 (ix2 k d)) (fun d => vb (ix2 0 d))
          (fun d => g (ix2 0 d)) (fun d => be (ix2 0 d)) d := by
  pointwise [k0_pay14, k0_pay11, k0_pay12, k0_pay13, branch, gated, gateIn, normDist, mean]

theorem noise_at (x3 : Vec Ideal S4x64 .f32) (x7 : Vec Ideal S64x1024 .f32) (b : Vec Ideal S1x1024 .f32) (x8 : Vec Ideal S1024x1024 .f32)
    (vb g be : Vec Ideal S1x1024 .f32) (r : Fin 4) (d : Fin 1024) :
    k0_pay19 (F := Ideal) (k0_pay15 x3 x7 b x8 vb) (k0_pay16 g) (k0_pay17 be) (k0_pay18 x3 x7 b x8 vb) (Scalar.ofBits .f32 0x44800000#32) (ix2 r d)
      = branch (fun j => x3 (ix2 r j)) (fun j k => x7 (ix2 j k)) (fun k => b (ix2 0 k)) (fun k d => x8 (ix2 k d)) (fun d => vb (ix2 0 d))
          (fun d => g (ix2 0 d)) (fun d => be (ix2 0 d)) d := by
  pointwise [k0_pay15, k0_pay16, k0_pay17, k0_pay18, k0_pay19, branch, gated, gateIn, normDist, mean]

theorem resource_at (x4 : Vec Ideal S4x32 .f32) (x9 : Vec Ideal S32x1024 .f32) (b : Vec Ideal S1x1024 .f32) (x10 : Vec Ideal S1024x1024 .f32)
    (vb : Vec Ideal S1x1024 .f32) (r : Fin 4) (d : Fin 1024) : k0_pay20 (F := Ideal) x4 x9 b x10 vb (ix2 r d)
      = gated (fun j => x4 (ix2 r j)) (fun j k => x9 (ix2 j k)) (fun k => b (ix2 0 k)) (fun k d => x10 (ix2 k d)) (fun d => vb (ix2 0 d)) d := by
  pointwise [k0_pay20, gated, gateIn]

/-- The bias rows: the three branches' rows side by side against the stash, with the bias. -/
theorem pay9_at (m n h : FVec Ideal S4x1024 .f32) (g be : Vec Ideal S1x1024 .f32) (s : Vec Ideal S3072x1024 .bf16) (b1 : Vec Ideal S1x1024 .f32)
    (r : Fin 4) (d : Fin 1024) : k0_pay9 (F := Ideal) m n h (k0_pay21 g) (k0_pay22 be) s b1 (ix3 r 0 d)
      = (∑ k, side3 (fun k => m (ix2 r k)) (fun k => n (ix2 r k))
          (fun k => normDist (fun d => h (ix2 r d)) k * g (ix2 0 k) + be (ix2 0 k)) k * s (ix2 k d)) + b1 (ix2 0 d) := by
  pointwise [k0_pay9, k0_pay21, k0_pay22, side3, normDist, mean]

end Cert.Weights
end
-- ==== Proof.WeightsInputs.lean ====
/- What each window of the call `weights_prep` shows at a point, in terms of the arguments. -/
module

public import proofs.«01_k».proof.Proof.Gen.Kernel3Ideal.Frame
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Weights

open Idealize.ShloMosaic Idealize.ShloMosaic.TcCoe Cert.Kernel3Ideal Cert.Kernel3Ideal.Gen

variable (m : (ℓ : Loc nD τ sig) → Buf (Elt Ideal) ℓ) (c : Dev nD) (t : Fin cfg0.N)

/-- Where each window stands at a point: the weights go down block by block, and so does their scaled copy, in another order. -/
theorem idx : ∀ t : Fin cfg0.N, win0_0.index t = ![0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![if t.val < 2 then t.val else if t.val = 5 then 2 else 3, 0]
    ∧ win0_16.index t = ![0, 0] ∧ win0_17.index t = ![0, 0, 0] :=
  (by decide +kernel : ∀ t : Fin grid0.N, _)

/-- The point's coordinate is its number. -/
theorem coord : (grid0.coords t 0).val = t.val := by
  have ht : t.val < 6 := Nat.lt_of_lt_of_eq t.isLt N_0
  have e0 : (grid0.coords t 0).val = t.val / 1 % 6 := Pipeline.Grid.coords_val t 0 (by decide) rfl
  omega

theorem aw_at (j : Fin 6) : iblk m c 0 t (ix1 j) = m ((c : Thread nD τ).loc main_arg29) (ix1 j) := by
  blk_ext [iblk, V, idx t]

theorem w1_at (r d : Fin 1024) : iblk m c 1 t (ix2 r d)
    = m ((c : Thread nD τ).loc main_arg24) (ix2 ⟨t.val * 1024 + r.val, by have h : t.val < 6 := Nat.lt_of_lt_of_eq t.isLt N_0; omega⟩ d) := by
  blk_ext [iblk, V, idx t]

theorem x2_at (r : Fin 4) (k : Fin 512) : iblk m c 2 t (ix2 r k) = m ((c : Thread nD τ).loc main_arg0) (ix2 r k) := by
  blk_ext [iblk, V, idx t]

theorem x3_at (r : Fin 4) (k : Fin 64) : iblk m c 3 t (ix2 r k) = m ((c : Thread nD τ).loc main_arg1) (ix2 r k) := by
  blk_ext [iblk, V, idx t]

theorem x4_at (r : Fin 4) (k : Fin 32) : iblk m c 4 t (ix2 r k) = m ((c : Thread nD τ).loc main_arg2) (ix2 r k) := by
  blk_ext [iblk, V, idx t]

theorem x5_at (r : Fin 512) (d : Fin 1024) : iblk m c 5 t (ix2 r d) = m ((c : Thread nD τ).loc main_arg6) (ix2 r d) := by
  blk_ext [iblk, V, idx t]

theorem x6_at (r d : Fin 1024) : iblk m c 6 t (ix2 r d) = m ((c : Thread nD τ).loc main_arg8) (ix2 r d) := by
  blk_ext [iblk, V, idx t]

theorem x7_at (r : Fin 64) (d : Fin 1024) : iblk m c 7 t (ix2 r d) = m ((c : Thread nD τ).loc main_arg12) (ix2 r d) := by
  blk_ext [iblk, V, idx t]

theorem x8_at (r d : Fin 1024) : iblk m c 8 t (ix2 r d) = m ((c : Thread nD τ).loc main_arg14) (ix2 r d) := by
  blk_ext [iblk, V, idx t]

theorem x9_at (r : Fin 32) (d : Fin 1024) : iblk m c 9 t (ix2 r d) = m ((c : Thread nD τ).loc main_arg18) (ix2 r d) := by
  blk_ext [iblk, V, idx t]

theorem x10_at (r d : Fin 1024) : iblk m c 10 t (ix2 r d) = m ((c : Thread nD τ).loc main_arg20) (ix2 r d) := by
  blk_ext [iblk, V, idx t]

theorem x11_at (r : Fin 5) (d : Fin 1024) : iblk m c 11 t (ix2 r d) = m ((c : Thread nD τ).loc main_arg3) (ix2 r d) := by
  blk_ext [iblk, V, idx t]

theorem x12_at (r : Fin 5) (d : Fin 1024) : iblk m c 12 t (ix2 r d) = m ((c : Thread nD τ).loc main_arg4) (ix2 r d) := by
  blk_ext [iblk, V, idx t]

theorem x13_at (r : Fin 3) (d : Fin 1024) : iblk m c 13 t (ix2 r d) = m ((c : Thread nD τ).loc main_arg5) (ix2 r d) := by
  blk_ext [iblk, V, idx t]

theorem x14_at (r : Fin 16) (d : Fin 1024) : iblk m c 14 t (ix2 r d) = V m c main_v16 (ix2 r d) := by
  blk_ext [iblk, idx t]

set_option maxHeartbeats 4000000 in
/-- The sixteen short parameters, one under the other; the thirteen the call reads. -/
theorem aux_at (d : Fin 1024) :
    V m c main_v16 (ix2 0 d) = m ((c : Thread nD τ).loc main_arg7) (ix1 d)
    ∧ V m c main_v16 (ix2 1 d) = m ((c : Thread nD τ).loc main_arg9) (ix1 d)
    ∧ V m c main_v16 (ix2 2 d) = m ((c : Thread nD τ).loc main_arg10) (ix1 d)
    ∧ V m c main_v16 (ix2 3 d) = m ((c : Thread nD τ).loc main_arg11) (ix1 d)
    ∧ V m c main_v16 (ix2 4 d) = m ((c : Thread nD τ).loc main_arg13) (ix1 d)
    ∧ V m c main_v16 (ix2 5 d) = m ((c : Thread nD τ).loc main_arg15) (ix1 d)
    ∧ V m c main_v16 (ix2 6 d) = m ((c : Thread nD τ).loc main_arg16) (ix1 d)
    ∧ V m c main_v16 (ix2 7 d) = m ((c : Thread nD τ).loc main_arg17) (ix1 d)
    ∧ V m c main_v16 (ix2 8 d) = m ((c : Thread nD τ).loc main_arg19) (ix1 d)
    ∧ V m c main_v16 (ix2 9 d) = m ((c : Thread nD τ).loc main_arg21) (ix1 d)
    ∧ V m c main_v16 (ix2 10 d) = m ((c : Thread nD τ).loc main_arg22) (ix1 d)
    ∧ V m c main_v16 (ix2 11 d) = m ((c : Thread nD τ).loc main_arg23) (ix1 d)
    ∧ V m c main_v16 (ix2 12 d) = m ((c : Thread nD τ).loc main_arg25) (ix1 d) := by
  unfold V
  refine ⟨?_, ?_, ?_, ?_, ?_, ?_, ?_, ?_, ?_, ?_, ?_, ?_, ?_⟩
  all_goals
    after_reads_at
    rw [StableHlo.unary_result]
    after_reads_at

end Cert.Weights
end
-- ==== Proof.WeightsPoints.lean ====
/- What the buffers of the call `weights_prep` hold at its six points, row by row. -/
module

public import proofs.«01_k».proof.Proof.WeightsRun
public import proofs.«01_k».proof.Proof.WeightsBlock
public import proofs.«01_k».proof.Proof.WeightsInputs

@[expose] public section

set_option maxRecDepth 16384

noncomputable section

namespace Cert.Weights

open Idealize.ShloMosaic Idealize.ShloMosaic.TcCoe Cert.Kernel3Ideal Cert.Kernel3Ideal.Gen Cert.WeightsRow

/-! ## Replacing some rows -/

section Overlay

variable {α : Type} {N n o : ℕ} (inb : ∀ a, (![o, 0] : Fin 2 → ℕ) a + (⟨2, ![n, 1024]⟩ : Shape).size a ≤ (⟨2, ![N, 1024]⟩ : Shape).size a)
  (X : (⟨2, ![N, 1024]⟩ : Shape).Idx → α) (w : (⟨2, ![n, 1024]⟩ : Shape).Idx → α) (i : Fin N) (d : Fin 1024)

/-- A replaced row is the new one, -/
theorem overlay_in (r : Fin n) (h : i.val = o + r.val) :
    (Rect.unit (s := ⟨2, ![N, 1024]⟩) ![o, 0] (⟨2, ![n, 1024]⟩ : Shape).size inb).overlay X w (ix2 i d) = w (ix2 r d) := by
  have e : ix2 i d = (Rect.unit (s := ⟨2, ![N, 1024]⟩) ![o, 0] (⟨2, ![n, 1024]⟩ : Shape).size inb).emb (ix2 r d) := by
    refine funext fun a => Fin.ext ?_
    match a with
    | 0 => exact h.trans (by show o + r.val = o + 1 * r.val; omega)
    | 1 => show d.val = 0 + 1 * d.val; omega
  rw [e]
  exact Rect.overlay_emb (Rect.unit (s := ⟨2, ![N, 1024]⟩) ![o, 0] (⟨2, ![n, 1024]⟩ : Shape).size inb) X w (ix2 r d)

/-- another row is kept. -/
theorem overlay_out (h : i.val < o ∨ o + n ≤ i.val) :
    (Rect.unit (s := ⟨2, ![N, 1024]⟩) ![o, 0] (⟨2, ![n, 1024]⟩ : Shape).size inb).overlay X w (ix2 i d) = X (ix2 i d) := by
  refine Rect.overlay_of_not_mem _ _ _ fun hm => ?_
  have h0 := Rect.mem_set_unit.1 hm 0
  change o ≤ i.val ∧ i.val < o + n at h0
  omega

end Overlay

variable (m : (ℓ : Loc nD τ sig) → Buf (Elt Ideal) ℓ) (c : Dev nD)

/-- The shares of the six parts. -/
abbrev part (g : Fin 6) : EReal := share (fun j => m ((c : Thread nD τ).loc main_arg29) (ix1 j)) g

/-- A row of one of the six blocks of `int_W1`. -/
abbrev wts (g : Fin 6) (r d : Fin 1024) : EReal := m ((c : Thread nD τ).loc main_arg24) (ix2 ⟨g.val * 1024 + r.val, by omega⟩ d)

/-! ## The block of weights at a point -/

theorem scaled23 (t : Fin cfg0.N) (g : Fin 6) (h : t.val = g.val) (r d : Fin 1024) :
    k0_pay23 (F := Ideal) (grid0.coords t) (iblk m c 0 t) (iblk m c 1 t) (ix2 r d) = wts m c g r d * part m c g := by
  obtain rfl : t = ⟨g.val, Nat.lt_of_lt_of_eq g.isLt N_0.symm⟩ := Fin.ext h
  refine (pay23_at _ _ _ g (coord _) r d).trans ?_
  simp only [aw_at, w1_at]

theorem scaled24 (t : Fin cfg0.N) (g : Fin 6) (h : t.val = g.val) (r d : Fin 1024) :
    k0_pay24 (F := Ideal) (grid0.coords t) (iblk m c 0 t) (iblk m c 1 t) (ix2 r d) = wts m c g r d * part m c g := by
  obtain rfl : t = ⟨g.val, Nat.lt_of_lt_of_eq g.isLt N_0.symm⟩ := Fin.ext h
  refine (pay24_at _ _ _ g (coord _) r d).trans ?_
  simp only [aw_at, w1_at]

/-! ## The scratch buffers -/

/-- The points by number. -/
abbrev pt (n : ℕ) (h : n < 6 := by decide) : Fin cfg0.N := ⟨n, Nat.lt_of_lt_of_eq h N_0.symm⟩

/-- The stash after the points 2, 3 and 4, one block at each. -/
theorem stash_two (z : Vec Ideal S3072x1024 .bf16) : stashAt m c z 3
    = (Rect.unit (s := S3072x1024) ![0, 0] S1024x1024.size inb_S3072x1024_S1024x1024_0_0).overlay (stashAt m c z 2)
        (k0_pay3 (k0_pay24 (grid0.coords (pt 2)) (iblk m c 0 (pt 2)) (iblk m c 1 (pt 2)))) := by
  refine (stashAt_succ m c z (pt 2)).trans ?_
  unfold stash0
  rw [if_pos ((hcond0_3 (pt 2)).2 rfl)]

theorem stash_three (z : Vec Ideal S3072x1024 .bf16) : stashAt m c z 4
    = (Rect.unit (s := S3072x1024) ![1024, 0] S1024x1024.size inb_S3072x1024_S1024x1024_1024_0).overlay (stashAt m c z 3)
        (k0_pay5 (k0_pay24 (grid0.coords (pt 3)) (iblk m c 0 (pt 3)) (iblk m c 1 (pt 3)))) := by
  refine (stashAt_succ m c z (pt 3)).trans ?_
  unfold stash0
  rw [if_neg (mt (hcond0_3 (pt 3)).1 (by decide)), if_pos ((hcond0_4 (pt 3)).2 rfl)]

theorem stash_four (z : Vec Ideal S3072x1024 .bf16) : stashAt m c z 5
    = (Rect.unit (s := S3072x1024) ![2048, 0] S1024x1024.size inb_S3072x1024_S1024x1024_2048_0).overlay (stashAt m c z 4)
        (k0_pay7 (k0_pay24 (grid0.coords (pt 4)) (iblk m c 0 (pt 4)) (iblk m c 1 (pt 4)))) := by
  refine (stashAt_succ m c z (pt 4)).trans ?_
  unfold stash0
  rw [if_neg (mt (hcond0_3 (pt 4)).1 (by decide)), if_neg (mt (hcond0_4 (pt 4)).1 (by decide)), if_pos ((hcond0_5 (pt 4)).2 rfl)]

/-- So at the last point the stash is the three middle blocks, one under the other. -/
theorem stash_at (z : Vec Ideal S3072x1024 .bf16) (k : Fin 3072) (d : Fin 1024) : stashAt m c z 5 (ix2 k d)
    = side3 (fun r => wts m c 2 r d * part m c 2) (fun r => wts m c 3 r d * part m c 3) (fun r => wts m c 4 r d * part m c 4) k := by
  unfold side3
  split
  next h =>
    rw [stash_four, overlay_out _ _ _ k d (by omega), stash_three, overlay_out _ _ _ k d (by omega), stash_two,
      overlay_in _ _ _ k d ⟨k.val, h⟩ (by simp)]
    pointwise [k0_pay3]
    exact scaled24 m c (pt 2) 2 rfl _ d
  next h =>
    split
    next h' =>
      rw [stash_four, overlay_out _ _ _ k d (by omega), stash_three, overlay_in _ _ _ k d ⟨k.val - 1024, h'⟩ (by simp; omega)]
      pointwise [k0_pay5]
      exact scaled24 m c (pt 3) 3 rfl _ d
    next h' =>
      rw [stash_four, overlay_in _ _ _ k d ⟨k.val - 1024 - 1024, by omega⟩ (by simp; omega)]
      pointwise [k0_pay7]
      exact scaled24 m c (pt 4) 4 rfl _ d

/-- The running sum at point 4 is that of the two blocks before. -/
theorem sum_at (z : Vec Ideal S1024x1024 .f32) (r d : Fin 1024) :
    sumAt m c z 4 (ix2 r d) = wts m c 2 r d * part m c 2 + wts m c 3 r d * part m c 3 := by
  have e2 : sumAt m c z 3 = k0_pay2 (k0_pay23 (grid0.coords (pt 2)) (iblk m c 0 (pt 2)) (iblk m c 1 (pt 2))) := by
    refine (sumAt_succ m c z (pt 2)).trans ?_
    unfold sum0
    rw [if_pos ((hcond0_3 (pt 2)).2 rfl)]
  have e3 : sumAt m c z 4 = k0_pay4 (k0_pay23 (grid0.coords (pt 3)) (iblk m c 0 (pt 3)) (iblk m c 1 (pt 3))) (sumAt m c z 3) := by
    refine (sumAt_succ m c z (pt 3)).trans ?_
    unfold sum0
    rw [if_neg (mt (hcond0_3 (pt 3)).1 (by decide)), if_pos ((hcond0_4 (pt 3)).2 rfl)]
  rw [e3, e2]
  pointwise [k0_pay4, k0_pay2]
  exact congrArg₂ (· + ·) (scaled23 m c (pt 2) 2 rfl r d) (scaled23 m c (pt 3) 3 rfl r d)

/-! ## The scaled weights' window -/

/-- At a point of the first two and the last the block is the scaled one, -/
theorem out15_edge (t : Fin cfg0.N) (g : Fin 6) (h : t.val = g.val) (hg : ¬(2 ≤ t.val % 6 ∧ t.val % 6 ≤ 4))
    (Y : Vec Ideal S1024x1024 .bf16) (s : Vec Ideal S1024x1024 .f32) (r d : Fin 1024) :
    out0_15 (F := Ideal) (grid0.coords t) (iblk m c 0 t) (iblk m c 1 t) Y s (ix2 r d) = wts m c g r d * part m c g := by
  unfold out0_15
  rw [if_pos ((hcond0_0 t).2 hg)]
  exact scaled24 m c t g h r d

/-- at point 4 the sum of the three middle ones. -/
theorem out15_mid (Y : Vec Ideal S1024x1024 .bf16) (z : Vec Ideal S1024x1024 .f32) (r d : Fin 1024) :
    out0_15 (F := Ideal) (grid0.coords (pt 4)) (iblk m c 0 (pt 4)) (iblk m c 1 (pt 4)) Y (sumAt m c z 4) (ix2 r d)
      = wts m c 2 r d * part m c 2 + wts m c 3 r d * part m c 3 + wts m c 4 r d * part m c 4 := by
  unfold out0_15
  rw [if_neg (mt (hcond0_0 (pt 4)).1 (by decide)), if_pos ((hcond0_5 (pt 4)).2 rfl)]
  pointwise [k0_pay8, k0_pay6]
  exact congrArg₂ (· + ·) (sum_at m c z r d) (scaled23 m c (pt 4) 4 rfl r d)

/-! ## The window of projected rows -/

section Proj

variable (Y : Vec Ideal S24x1024 .f32) (r : Fin 8) (d : Fin 1024)

/-- What one point makes of the window. -/
abbrev step16 (t : Fin cfg0.N) : Vec Ideal S24x1024 .f32 :=
  out0_16 (F := Ideal) (grid0.coords t) (iblk m c 0 t) (iblk m c 1 t) (iblk m c 11 t) (iblk m c 12 t) (iblk m c 13 t) Y

theorem step16_first : step16 m c Y (pt 0) = (Rect.unit (s := S24x1024) ![0, 0] S8x1024.size inb_S24x1024_S8x1024_0_0).overlay Y
    (k0_pay25 (grid0.coords (pt 0)) (iblk m c 0 (pt 0)) (iblk m c 1 (pt 0)) (iblk m c 11 (pt 0))) := by
  unfold step16 out0_16
  rw [if_pos ((hcond0_1 (pt 0)).2 rfl)]

theorem step16_second : step16 m c Y (pt 1) = (Rect.unit (s := S24x1024) ![8, 0] S8x1024.size inb_S24x1024_S8x1024_8_0).overlay Y
    (k0_pay1 (k0_pay24 (grid0.coords (pt 1)) (iblk m c 0 (pt 1)) (iblk m c 1 (pt 1))) (iblk m c 12 (pt 1))) := by
  unfold step16 out0_16
  rw [if_neg (mt (hcond0_1 (pt 1)).1 (by decide)), if_pos ((hcond0_2 (pt 1)).2 rfl)]

theorem step16_last : step16 m c Y (pt 5) = (Rect.unit (s := S24x1024) ![16, 0] S8x1024.size inb_S24x1024_S8x1024_16_0).overlay Y
    (k0_pay10 (k0_pay24 (grid0.coords (pt 5)) (iblk m c 0 (pt 5)) (iblk m c 1 (pt 5))) (iblk m c 13 (pt 5))) := by
  unfold step16 out0_16
  rw [if_neg (mt (hcond0_1 (pt 5)).1 (by decide)), if_neg (mt (hcond0_2 (pt 5)).1 (by decide)), if_pos ((hcond0_6 (pt 5)).2 rfl)]

/-- The middle points leave it alone. -/
theorem step16_mid (t : Fin cfg0.N) (h : 2 ≤ t.val % 6 ∧ t.val % 6 ≤ 4) : step16 m c Y t = Y := by
  unfold step16 out0_16
  rw [if_neg (mt (hcond0_1 t).1 (by omega)), if_neg (mt (hcond0_2 t).1 (by omega)), if_neg (mt (hcond0_6 t).1 (by omega))]

/-- The three small tables that are projected. -/
abbrev rows3 (r : Fin 5) (k : Fin 1024) : EReal := m ((c : Thread nD τ).loc main_arg3) (ix2 r k)
abbrev rows4 (r : Fin 5) (k : Fin 1024) : EReal := m ((c : Thread nD τ).loc main_arg4) (ix2 r k)
abbrev rows5 (r : Fin 3) (k : Fin 1024) : EReal := m ((c : Thread nD τ).loc main_arg5) (ix2 r k)

/-- The whole window after the last point: eight rows from each of the points 0, 1 and 5. -/
theorem proj_rows :
    step16 m c (step16 m c (step16 m c Y (pt 0)) (pt 1)) (pt 5) (ix2 ⟨r.val, by omega⟩ d)
      = (if h : r.val < 5 then ∑ k : Fin 1024, rows3 m c ⟨r.val, h⟩ k * (wts m c 0 k d * part m c 0) else 0)
    ∧ step16 m c (step16 m c (step16 m c Y (pt 0)) (pt 1)) (pt 5) (ix2 ⟨8 + r.val, by omega⟩ d)
      = (if h : r.val < 5 then ∑ k : Fin 1024, rows4 m c ⟨r.val, h⟩ k * (wts m c 1 k d * part m c 1) else 0)
    ∧ step16 m c (step16 m c (step16 m c Y (pt 0)) (pt 1)) (pt 5) (ix2 ⟨16 + r.val, by omega⟩ d)
      = (if h : r.val < 3 then ∑ k : Fin 1024, rows5 m c ⟨r.val, h⟩ k * (wts m c 5 k d * part m c 5) else 0) := by
  have hr := r.isLt
  rw [step16_last, step16_second, step16_first]
  refine ⟨?_, ?_, ?_⟩
  · rw [overlay_out _ _ _ _ d (by simp; omega), overlay_out _ _ _ _ d (by simp), overlay_in _ _ _ _ d r (by simp), pay25_at]
    simp only [x11_at, scaled24 m c (pt 0) 0 rfl]
  · rw [overlay_out _ _ _ _ d (by simp; omega), overlay_in _ _ _ _ d r rfl, pay1_at]
    simp only [x12_at, scaled24 m c (pt 1) 1 rfl]
  · rw [overlay_in _ _ _ _ d r rfl, pay10_at]
    simp only [x13_at, scaled24 m c (pt 5) 5 rfl]

end Proj

end Cert.Weights
end
-- ==== Proof.WeightsReference.lean ====
/- The reference of the call `weights_prep`, read at one entry of each of its three arrays. -/
module

public import proofs.«01_k».proof.Proof.WeightsRow
public import proofs.«01_k».proof.Proof.Gen.Reference3Ideal.Read
public import Idealize.ShloMosaic.Lib.Pointwise

@[expose] public section

set_option maxRecDepth 16384

noncomputable section

namespace Cert.Reference3Ideal.Rows

open Idealize.ShloMosaic Cert.Reference3Ideal Cert.Reference3Ideal.Read Cert.Row Cert.WeightsRow

variable (x0 : Vec Ideal S4x512 .f32) (x1 : Vec Ideal S4x64 .f32) (x2 : Vec Ideal S4x32 .f32)
  (x3 x4 : Vec Ideal S5x1024 .f32) (x5 : Vec Ideal S3x1024 .f32)
  (x6 : Vec Ideal S512x1024 .f32) (x7 : Vec Ideal S1024 .f32) (x8 : Vec Ideal S1024x1024 .f32) (x9 x10 x11 : Vec Ideal S1024 .f32)
  (x12 : Vec Ideal S64x1024 .f32) (x13 : Vec Ideal S1024 .f32) (x14 : Vec Ideal S1024x1024 .f32) (x15 x16 x17 : Vec Ideal S1024 .f32)
  (x18 : Vec Ideal S32x1024 .f32) (x19 : Vec Ideal S1024 .f32) (x20 : Vec Ideal S1024x1024 .f32) (x21 x22 x23 : Vec Ideal S1024 .f32)
  (x24 : Vec Ideal S6144x1024 .f32) (x25 : Vec Ideal S1024 .f32) (x29 : Vec Ideal S6 .f32)

/-- The softmax. -/
theorem share_at (k : Fin 6) : val_main_v108 (F := Ideal) x29 (ix1 k) = share (fun j => x29 (ix1 j)) k := by
  pointwise [val_main_cst_14, val_main_v99, val_main_cst_15, val_main_v100, val_main_v101, val_main_v102, val_main_v103, val_main_v104,
    val_main_cst_16, val_main_v105, val_main_v106, val_main_v107, val_main_v108, share, max_top]

/-- The memory branch before its norm, -/
theorem v8_at (b : Fin 4) (d : Fin 1024) : val_main_v8 (F := Ideal) x0 x6 x7 x8 x9 (ix2 b d)
    = gated (fun j => x0 (ix2 b j)) (fun j k => x6 (ix2 j k)) (fun k => x7 (ix1 k)) (fun k d => x8 (ix2 k d)) (fun d => x9 (ix1 d)) d := by
  pointwise [val_main_v0, val_main_v1, val_main_v2, val_main_v3, val_main_call0_v0, val_main_call0_v1, val_main_call0_cst, val_main_call0_v2,
    val_main_call0_v3, val_main_call0_cst_0, val_main_call0_v4, val_main_call0_v5, val_main_v4, val_main_v5, val_main_v6, val_main_v7,
    val_main_v8, gated, gateIn, Ideal.logistic]

/-- and whole. -/
theorem memory_at (b : Fin 4) (d : Fin 1024) : val_main_v32 (F := Ideal) x0 x6 x7 x8 x9 x10 x11 (ix2 b d)
    = branch (fun j => x0 (ix2 b j)) (fun j k => x6 (ix2 j k)) (fun k => x7 (ix1 k)) (fun k d => x8 (ix2 k d)) (fun d => x9 (ix1 d))
        (fun d => x10 (ix1 d)) (fun d => x11 (ix1 d)) d := by
  unfold branch
  rw [← show (fun d => val_main_v8 (F := Ideal) x0 x6 x7 x8 x9 (ix2 b d)) = _ from funext (v8_at x0 x6 x7 x8 x9 b)]
  pointwise [val_main_cst, val_main_v9, val_main_v10, val_main_cst_0, val_main_v11, val_main_v12, val_main_v13, val_main_v14, val_main_v15,
    val_main_cst_1, val_main_v16, val_main_v17, val_main_cst_2, val_main_v18, val_main_v19, val_main_v20, val_main_v21, val_main_cst_3,
    val_main_v22, val_main_v23, val_main_v24, val_main_v25, val_main_v26, val_main_v27, val_main_v28, val_main_v29, val_main_v30,
    val_main_v31, val_main_v32, normDist, mean]

/-- The noise branch before its norm, -/
theorem v41_at (b : Fin 4) (d : Fin 1024) : val_main_v41 (F := Ideal) x1 x12 x13 x14 x15 (ix2 b d)
    = gated (fun j => x1 (ix2 b j)) (fun j k => x12 (ix2 j k)) (fun k => x13 (ix1 k)) (fun k d => x14 (ix2 k d)) (fun d => x15 (ix1 d)) d := by
  pointwise [val_main_v33, val_main_v34, val_main_v35, val_main_v36, val_main_call1_v0, val_main_call1_v1, val_main_call1_cst, val_main_call1_v2,
    val_main_call1_v3, val_main_call1_cst_0, val_main_call1_v4, val_main_call1_v5, val_main_v37, val_main_v38, val_main_v39, val_main_v40,
    val_main_v41, gated, gateIn, Ideal.logistic]

/-- and whole. -/
theorem noise_at (b : Fin 4) (d : Fin 1024) : val_main_v65 (F := Ideal) x1 x12 x13 x14 x15 x16 x17 (ix2 b d)
    = branch (fun j => x1 (ix2 b j)) (fun j k => x12 (ix2 j k)) (fun k => x13 (ix1 k)) (fun k d => x14 (ix2 k d)) (fun d => x15 (ix1 d))
        (fun d => x16 (ix1 d)) (fun d => x17 (ix1 d)) d := by
  unfold branch
  rw [← show (fun d => val_main_v41 (F := Ideal) x1 x12 x13 x14 x15 (ix2 b d)) = _ from funext (v41_at x1 x12 x13 x14 x15 b)]
  pointwise [val_main_cst_4, val_main_v42, val_main_v43, val_main_cst_5, val_main_v44, val_main_v45, val_main_v46, val_main_v47, val_main_v48,
    val_main_cst_6, val_main_v49, val_main_v50, val_main_cst_7, val_main_v51, val_main_v52, val_main_v53, val_main_v54, val_main_cst_8,
    val_main_v55, val_main_v56, val_main_v57, val_main_v58, val_main_v59, val_main_v60, val_main_v61, val_main_v62, val_main_v63,
    val_main_v64, val_main_v65, normDist, mean]

/-- The resource branch before its norm, -/
theorem v74_at (b : Fin 4) (d : Fin 1024) : val_main_v74 (F := Ideal) x2 x18 x19 x20 x21 (ix2 b d)
    = gated (fun j => x2 (ix2 b j)) (fun j k => x18 (ix2 j k)) (fun k => x19 (ix1 k)) (fun k d => x20 (ix2 k d)) (fun d => x21 (ix1 d)) d := by
  pointwise [val_main_v66, val_main_v67, val_main_v68, val_main_v69, val_main_call2_v0, val_main_call2_v1, val_main_call2_cst, val_main_call2_v2,
    val_main_call2_v3, val_main_call2_cst_0, val_main_call2_v4, val_main_call2_v5, val_main_v70, val_main_v71, val_main_v72, val_main_v73,
    val_main_v74, gated, gateIn, Ideal.logistic]

/-- and whole. -/
theorem resource_at (b : Fin 4) (d : Fin 1024) : val_main_v98 (F := Ideal) x2 x18 x19 x20 x21 x22 x23 (ix2 b d)
    = branch (fun j => x2 (ix2 b j)) (fun j k => x18 (ix2 j k)) (fun k => x19 (ix1 k)) (fun k d => x20 (ix2 k d)) (fun d => x21 (ix1 d))
        (fun d => x22 (ix1 d)) (fun d => x23 (ix1 d)) d := by
  unfold branch
  rw [← show (fun d => val_main_v74 (F := Ideal) x2 x18 x19 x20 x21 (ix2 b d)) = _ from funext (v74_at x2 x18 x19 x20 x21 b)]
  pointwise [val_main_cst_9, val_main_v75, val_main_v76, val_main_cst_10, val_main_v77, val_main_v78, val_main_v79, val_main_v80, val_main_v81,
    val_main_cst_11, val_main_v82, val_main_v83, val_main_cst_12, val_main_v84, val_main_v85, val_main_v86, val_main_v87, val_main_cst_13,
    val_main_v88, val_main_v89, val_main_v90, val_main_v91, val_main_v92, val_main_v93, val_main_v94, val_main_v95, val_main_v96,
    val_main_v97, val_main_v98, normDist, mean]

/-- The branches, each times its share. -/
theorem v112_at (b : Fin 4) (d : Fin 1024) : val_main_v112 (F := Ideal) x0 x6 x7 x8 x9 x10 x11 x29 (ix2 b d)
    = share (fun j => x29 (ix1 j)) 2 * val_main_v32 (F := Ideal) x0 x6 x7 x8 x9 x10 x11 (ix2 b d) := by
  pointwise [val_main_v109, val_main_v110, val_main_v111, val_main_v112, share_at]

theorem v116_at (b : Fin 4) (d : Fin 1024) : val_main_v116 (F := Ideal) x1 x12 x13 x14 x15 x16 x17 x29 (ix2 b d)
    = share (fun j => x29 (ix1 j)) 3 * val_main_v65 (F := Ideal) x1 x12 x13 x14 x15 x16 x17 (ix2 b d) := by
  pointwise [val_main_v113, val_main_v114, val_main_v115, val_main_v116, share_at]

theorem v120_at (b : Fin 4) (d : Fin 1024) : val_main_v120 (F := Ideal) x2 x18 x19 x20 x21 x22 x23 x29 (ix2 b d)
    = share (fun j => x29 (ix1 j)) 4 * val_main_v98 (F := Ideal) x2 x18 x19 x20 x21 x22 x23 (ix2 b d) := by
  pointwise [val_main_v117, val_main_v118, val_main_v119, val_main_v120, share_at]

/-- The bias rows: the three branches, each times its share, against the middle weights. -/
theorem bias_at (b : Fin 4) (d : Fin 1024) :
    val_main_v183 (F := Ideal) x0 x1 x2 x6 x7 x8 x9 x10 x11 x12 x13 x14 x15 x16 x17 x18 x19 x20 x21 x22 x23 x24 x25 x29 (ix3 b 0 d)
    = (∑ k : Fin 3072, side3
        (fun d => share (fun j => x29 (ix1 j)) 2 * val_main_v32 (F := Ideal) x0 x6 x7 x8 x9 x10 x11 (ix2 b d))
        (fun d => share (fun j => x29 (ix1 j)) 3 * val_main_v65 (F := Ideal) x1 x12 x13 x14 x15 x16 x17 (ix2 b d))
        (fun d => share (fun j => x29 (ix1 j)) 4 * val_main_v98 (F := Ideal) x2 x18 x19 x20 x21 x22 x23 (ix2 b d)) k
          * x24 (ix2 ⟨2048 + k.val, by omega⟩ d)) + x25 (ix1 d) := by
  pointwise [val_main_v121, val_main_v122, val_main_v123, val_main_v124, val_main_v125, val_main_v126, val_main_v183, side3, v112_at, v116_at,
    v120_at]

/-- The blocks of `int_W1`, each times its share. -/
theorem v153_at (r d : Fin 1024) : val_main_v153 (F := Ideal) x24 x29 (ix2 r d)
    = share (fun j => x29 (ix1 j)) 0 * x24 (ix2 ⟨r.val, by omega⟩ d) := by
  pointwise [val_main_v149, val_main_v150, val_main_v151, val_main_v152, val_main_v153, share_at]

theorem v158_at (r d : Fin 1024) : val_main_v158 (F := Ideal) x24 x29 (ix2 r d)
    = share (fun j => x29 (ix1 j)) 1 * x24 (ix2 ⟨1024 + r.val, by omega⟩ d) := by
  pointwise [val_main_v154, val_main_v155, val_main_v156, val_main_v157, val_main_v158, share_at]

theorem v163_at (r d : Fin 1024) : val_main_v163 (F := Ideal) x24 x29 (ix2 r d)
    = share (fun j => x29 (ix1 j)) 5 * x24 (ix2 ⟨5120 + r.val, by omega⟩ d) := by
  pointwise [val_main_v159, val_main_v160, val_main_v161, val_main_v162, val_main_v163, share_at]

theorem v180_at (r d : Fin 1024) : val_main_v180 (F := Ideal) x24 x29 (ix2 r d)
    = share (fun j => x29 (ix1 j)) 2 * x24 (ix2 ⟨2048 + r.val, by omega⟩ d) + share (fun j => x29 (ix1 j)) 3 * x24 (ix2 ⟨3072 + r.val, by omega⟩ d)
      + share (fun j => x29 (ix1 j)) 4 * x24 (ix2 ⟨4096 + r.val, by omega⟩ d) := by
  pointwise [val_main_v164, val_main_v165, val_main_v166, val_main_v167, val_main_v168, val_main_v169, val_main_v170, val_main_v171,
    val_main_v172, val_main_v173, val_main_v174, val_main_v175, val_main_v176, val_main_v177, val_main_v178, val_main_v179, val_main_v180,
    share_at]

/-- The parts of the table of projected rows. -/
theorem v132_at (r : Fin 5) (d : Fin 1024) : val_main_v132 (F := Ideal) x3 x24 x29 (ix2 r d)
    = ∑ k : Fin 1024, share (fun j => x29 (ix1 j)) 0 * x3 (ix2 r k) * x24 (ix2 ⟨k.val, by omega⟩ d) := by
  pointwise [val_main_v127, val_main_v128, val_main_v129, val_main_v130, val_main_v131, val_main_v132, share_at]

theorem v139_at (r : Fin 5) (d : Fin 1024) : val_main_v139 (F := Ideal) x4 x24 x29 (ix2 r d)
    = ∑ k : Fin 1024, share (fun j => x29 (ix1 j)) 1 * x4 (ix2 r k) * x24 (ix2 ⟨1024 + k.val, by omega⟩ d) := by
  pointwise [val_main_v134, val_main_v135, val_main_v136, val_main_v137, val_main_v138, val_main_v139, share_at]

theorem v146_at (r : Fin 3) (d : Fin 1024) : val_main_v146 (F := Ideal) x5 x24 x29 (ix2 r d)
    = ∑ k : Fin 1024, share (fun j => x29 (ix1 j)) 5 * x5 (ix2 r k) * x24 (ix2 ⟨5120 + k.val, by omega⟩ d) := by
  pointwise [val_main_v141, val_main_v142, val_main_v143, val_main_v144, val_main_v145, val_main_v146, share_at]

theorem v133_at (r : Fin 3) (d : Fin 1024) : val_main_v133 (F := Ideal) (ix2 r d) = 0 := by pointwise [val_main_cst_17, val_main_v133]

theorem v140_at (r : Fin 3) (d : Fin 1024) : val_main_v140 (F := Ideal) (ix2 r d) = 0 := by pointwise [val_main_cst_18, val_main_v140]

theorem v147_at (r : Fin 5) (d : Fin 1024) : val_main_v147 (F := Ideal) (ix2 r d) = 0 := by pointwise [val_main_cst_19, val_main_v147]

/-- The weights that are multiplied with the token's parts: a block of `int_W1` times its share, -/
theorem w1m_at (r d : Fin 1024) :
    val_main_v182 (F := Ideal) x24 x29 (ix2 ⟨r.val, by omega⟩ d) = share (fun j => x29 (ix1 j)) 0 * x24 (ix2 ⟨r.val, by omega⟩ d)
    ∧ val_main_v182 (F := Ideal) x24 x29 (ix2 ⟨1024 + r.val, by omega⟩ d) = share (fun j => x29 (ix1 j)) 1 * x24 (ix2 ⟨1024 + r.val, by omega⟩ d)
    ∧ val_main_v182 (F := Ideal) x24 x29 (ix2 ⟨2048 + r.val, by omega⟩ d) = share (fun j => x29 (ix1 j)) 5 * x24 (ix2 ⟨5120 + r.val, by omega⟩ d)
    ∧ val_main_v182 (F := Ideal) x24 x29 (ix2 ⟨3072 + r.val, by omega⟩ d)
      = share (fun j => x29 (ix1 j)) 2 * x24 (ix2 ⟨2048 + r.val, by omega⟩ d) + share (fun j => x29 (ix1 j)) 3 * x24 (ix2 ⟨3072 + r.val, by omega⟩ d)
        + share (fun j => x29 (ix1 j)) 4 * x24 (ix2 ⟨4096 + r.val, by omega⟩ d) := by
  have hr := r.isLt
  have e1 : 1024 + r.val - 1024 = r.val := by omega
  have e2 : 2048 + r.val - 1024 - 1024 = r.val := by omega
  have e3 : 3072 + r.val - 1024 - 1024 - 1024 = r.val := by omega
  refine ⟨?_, ?_, ?_, ?_⟩
  all_goals
    pointwise [val_main_v181, val_main_v182, v153_at, v158_at, v163_at, v180_at]
  all_goals try simp only [e1, e2, e3]
  all_goals split_ifs
  all_goals first | omega | rfl

/-- The projected rows: a few rows times their share against a block of `int_W1`, and zeros up to eight rows. -/
theorem proj_at (r : Fin 8) (d : Fin 1024) :
    val_main_v148 (F := Ideal) x3 x4 x5 x24 x29 (ix2 ⟨r.val, by omega⟩ d)
      = (if h : r.val < 5 then ∑ k : Fin 1024, share (fun j => x29 (ix1 j)) 0 * x3 (ix2 ⟨r.val, h⟩ k) * x24 (ix2 ⟨k.val, by omega⟩ d) else 0)
    ∧ val_main_v148 (F := Ideal) x3 x4 x5 x24 x29 (ix2 ⟨8 + r.val, by omega⟩ d)
      = (if h : r.val < 5 then ∑ k : Fin 1024, share (fun j => x29 (ix1 j)) 1 * x4 (ix2 ⟨r.val, h⟩ k) * x24 (ix2 ⟨1024 + k.val, by omega⟩ d) else 0)
    ∧ val_main_v148 (F := Ideal) x3 x4 x5 x24 x29 (ix2 ⟨16 + r.val, by omega⟩ d)
      = (if h : r.val < 3 then ∑ k : Fin 1024, share (fun j => x29 (ix1 j)) 5 * x5 (ix2 ⟨r.val, h⟩ k) * x24 (ix2 ⟨5120 + k.val, by omega⟩ d) else 0) := by
  have hr := r.isLt
  have e1 : 8 + r.val - 5 - 3 = r.val := by omega
  have e2 : 16 + r.val - 5 - 3 - 5 - 3 = r.val := by omega
  refine ⟨?_, ?_, ?_⟩
  all_goals
    pointwise [val_main_v148, v132_at, v133_at, v139_at, v140_at, v146_at, v147_at]
  all_goals try simp only [e1, e2]
  all_goals split_ifs
  all_goals first | omega | rfl

end Cert.Reference3Ideal.Rows
end
-- ==== Proof.WeightsBias.lean ====
/- The bias rows the call `weights_prep` writes at its last point are the reference's. -/
module

public import proofs.«01_k».proof.Proof.WeightsPoints
public import proofs.«01_k».proof.Proof.WeightsReference

@[expose] public section

set_option maxRecDepth 16384

noncomputable section

namespace Cert.Weights

open Idealize.ShloMosaic Idealize.ShloMosaic.TcCoe Cert.Kernel3Ideal Cert.Kernel3Ideal.Gen Cert.Row Cert.WeightsRow

/-! ## The bias rows from the buffers -/

section Rows

variable (x2 : Vec Ideal S4x512 .f32) (x3 : Vec Ideal S4x64 .f32) (x4 : Vec Ideal S4x32 .f32) (x5 : Vec Ideal S512x1024 .f32)
  (x6 : Vec Ideal S1024x1024 .f32) (x7 : Vec Ideal S64x1024 .f32) (x8 : Vec Ideal S1024x1024 .f32) (x9 : Vec Ideal S32x1024 .f32)
  (x10 : Vec Ideal S1024x1024 .f32) (x14 : Vec Ideal S16x1024 .f32) (s1 : Vec Ideal S3072x1024 .bf16)

/-- A row read from the short parameters. -/
theorem ld_row (o : ℕ) (ho : o < 16) (inb : ∀ a, (![o, 0] : Fin 2 → ℕ) a + S1x1024.size a ≤ S16x1024.size a) (d : Fin 1024) :
    View.ld x14 (Rect.unit (s := S16x1024) ![o, 0] S1x1024.size inb) (ix2 0 d) = x14 (ix2 ⟨o, ho⟩ d) := by
  refine congrArg x14 (funext fun a => Fin.ext ?_)
  match a with
  | 0 => show o + 1 * 0 = o; omega
  | 1 => show 0 + 1 * d.val = d.val; omega

theorem bias0_at (r : Fin 4) (d : Fin 1024) : bias0 x2 x3 x4 x5 x6 x7 x8 x9 x10 x14 s1 (ix3 r 0 d)
    = (∑ k, side3
        (branch (fun j => x2 (ix2 r j)) (fun j k => x5 (ix2 j k)) (fun k => x14 (ix2 0 k)) (fun k d => x6 (ix2 k d)) (fun d => x14 (ix2 1 d))
          (fun d => x14 (ix2 2 d)) (fun d => x14 (ix2 3 d)))
        (branch (fun j => x3 (ix2 r j)) (fun j k => x7 (ix2 j k)) (fun k => x14 (ix2 4 k)) (fun k d => x8 (ix2 k d)) (fun d => x14 (ix2 5 d))
          (fun d => x14 (ix2 6 d)) (fun d => x14 (ix2 7 d)))
        (branch (fun j => x4 (ix2 r j)) (fun j k => x9 (ix2 j k)) (fun k => x14 (ix2 8 k)) (fun k d => x10 (ix2 k d)) (fun d => x14 (ix2 9 d))
          (fun d => x14 (ix2 10 d)) (fun d => x14 (ix2 11 d))) k * s1 (ix2 k d)) + x14 (ix2 12 d) := by
  unfold bias0
  refine (pay9_at _ _ _ _ _ _ _ r d).trans ?_
  simp only [memory_at, noise_at, resource_at, ld_row x14 0 (by decide), ld_row x14 1 (by decide), ld_row x14 2 (by decide),
    ld_row x14 3 (by decide), ld_row x14 4 (by decide), ld_row x14 5 (by decide), ld_row x14 6 (by decide), ld_row x14 7 (by decide),
    ld_row x14 8 (by decide), ld_row x14 9 (by decide), ld_row x14 10 (by decide), ld_row x14 11 (by decide), ld_row x14 12 (by decide)]
  rfl

end Rows

variable (m : (ℓ : Loc nD τ sig) → Buf (Elt Ideal) ℓ) (c : Dev nD)

/-- The reference's bias rows at the kernel's arguments. -/
abbrev target17 : S4x1x1024.Idx → EReal :=
  Reference3Ideal.Read.val_main_v183 (F := Ideal) (m ((c : Thread nD τ).loc main_arg0)) (m ((c : Thread nD τ).loc main_arg1))
    (m ((c : Thread nD τ).loc main_arg2)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22))
    (m ((c : Thread nD τ).loc main_arg23)) (m ((c : Thread nD τ).loc main_arg24)) (m ((c : Thread nD τ).loc main_arg25))
    (m ((c : Thread nD τ).loc main_arg29))

theorem turn (a u p : EReal) : a * (u * p) = p * a * u := by rw [mul_comm u p, ← mul_assoc, mul_comm a p]

/-- Where the shares are taken, on the branches or on the weights, makes no difference to a product. -/
theorem side3_mul (p q s : EReal) (a b e : R) (u v w : R) (wt : Fin 3072 → EReal) (h0 : ∀ r (hr : r < 1024), wt ⟨r, by omega⟩ = u ⟨r, hr⟩)
    (h1 : ∀ r (hr : r < 1024), wt ⟨1024 + r, by omega⟩ = v ⟨r, hr⟩) (h2 : ∀ r (hr : r < 1024), wt ⟨2048 + r, by omega⟩ = w ⟨r, hr⟩) (k : Fin 3072) :
    side3 a b e k * side3 (fun r => u r * p) (fun r => v r * q) (fun r => w r * s) k
      = side3 (fun r => p * a r) (fun r => q * b r) (fun r => s * e r) k * wt k := by
  unfold side3
  split
  next h => exact (turn _ _ _).trans (congrArg _ (h0 k.val h).symm)
  next h =>
    split
    next h' => exact (turn _ _ _).trans (congrArg _ ((h1 _ h').symm.trans (congrArg wt (Fin.ext (by simp; omega)))))
    next h' => exact (turn _ _ _).trans (congrArg _ ((h2 (k.val - 1024 - 1024) (by omega)).symm.trans (congrArg wt (Fin.ext (by simp; omega)))))

set_option maxHeartbeats 2000000 in
/-- The bias rows at the last point are the reference's. -/
theorem bias_target (z : Vec Ideal S3072x1024 .bf16) (r : Fin 4) (d : Fin 1024) :
    bias0 (F := Ideal) (iblk m c 2 (pt 5)) (iblk m c 3 (pt 5)) (iblk m c 4 (pt 5)) (iblk m c 5 (pt 5)) (iblk m c 6 (pt 5)) (iblk m c 7 (pt 5))
      (iblk m c 8 (pt 5)) (iblk m c 9 (pt 5)) (iblk m c 10 (pt 5)) (iblk m c 14 (pt 5)) (stashAt m c z 5) (ix3 r 0 d)
      = target17 m c (ix3 r 0 d) := by
  refine (bias0_at _ _ _ _ _ _ _ _ _ _ _ r d).trans ?_
  refine Eq.trans ?_ (Reference3Ideal.Rows.bias_at _ _ _ _ _ _ _ _ _ _ _ _ _ _ _ _ _ _ _ _ _ _ _ _ r d).symm
  simp only [Reference3Ideal.Rows.memory_at, Reference3Ideal.Rows.noise_at, Reference3Ideal.Rows.resource_at, x2_at, x3_at, x4_at, x5_at, x6_at,
    x7_at, x8_at, x9_at, x10_at, x14_at, stash_at, (aux_at m c _).1, (aux_at m c _).2.1, (aux_at m c _).2.2.1, (aux_at m c _).2.2.2.1,
    (aux_at m c _).2.2.2.2.1, (aux_at m c _).2.2.2.2.2.1, (aux_at m c _).2.2.2.2.2.2.1, (aux_at m c _).2.2.2.2.2.2.2.1,
    (aux_at m c _).2.2.2.2.2.2.2.2.1, (aux_at m c _).2.2.2.2.2.2.2.2.2.1, (aux_at m c _).2.2.2.2.2.2.2.2.2.2.1,
    (aux_at m c _).2.2.2.2.2.2.2.2.2.2.2.1, (aux_at m c _).2.2.2.2.2.2.2.2.2.2.2.2]
  refine congrArg (· + _) (Finset.sum_congr rfl fun k _ => ?_)
  refine side3_mul (part m c 2) (part m c 3) (part m c 4) _ _ _ (fun r => wts m c 2 r d) (fun r => wts m c 3 r d) (fun r => wts m c 4 r d)
    (fun k => m ((c : Thread nD τ).loc main_arg24) (ix2 ⟨2048 + k.val, by omega⟩ d)) ?_ ?_ ?_ k
  all_goals
    intro r hr
    refine congrArg (m ((c : Thread nD τ).loc main_arg24)) (congrArg (ix2 · d) (Fin.ext ?_))
    simp only [Fin.isValue]
    omega

end Cert.Weights
end
-- ==== Proof.WeightsFrame.lean ====
module

public import proofs.«01_k».proof.Proof.WeightsRun

/-! The call `weights_prep` leaves its arguments and the counters alone. -/

@[expose] public section

set_option maxRecDepth 16384

noncomputable section

namespace Cert.Weights

open Cert.Kernel3Ideal Cert.Kernel3Ideal.Gen
open Idealize.ShloMosaic Idealize.ShloMosaic.TcCoe
open Idealize.SL.Sem
open Idealize.ShloMosaic.Pipeline (RDat)

variable {F : FTy → Type} [FloatOps F]

variable {m : (ℓ : Loc nD τ sig) → Buf (Elt F) ℓ} (ρ : Dev nD → PrngReg)

/-- An array that only enters ends as the launch found it. -/
theorem staged {r : PUnit × MemSt nD τ sig (Elt F)} (h : RDat.FramePost (cfgs 0) (data m) (V m) r) (c : Dev nD) (w : Fin 18)
    (hw : (cfg0.win w).isOut = false) : r.2.mem ((c.tc : Thread nD τ).loc (Pipeline.arrRef spec0 w)) = V m c (Pipeline.arrRef spec0 w) :=
  RDat.FramePost.arr_in h c w hw

variable (m)

/-- Every argument ends as the launch found it. -/
abbrev Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)

variable {m} in
set_option maxHeartbeats 1800000 in
theorem kept {r : PUnit × MemSt nD τ sig (Elt F)} (h : RDat.FramePost (cfgs 0) (data m) (V m) r) (c : Dev nD) : Kept m r c :=
  ⟨(staged h c 2 rfl).trans (V_main_arg0 m c),
    (staged h c 3 rfl).trans (V_main_arg1 m c),
    (staged h c 4 rfl).trans (V_main_arg2 m c),
    (staged h c 11 rfl).trans (V_main_arg3 m c),
    (staged h c 12 rfl).trans (V_main_arg4 m c),
    (staged h c 13 rfl).trans (V_main_arg5 m c),
    (staged h c 5 rfl).trans (V_main_arg6 m c),
    ((h c).2 main_arg7 (Pipeline.mem_restRefs_of main_arg7 (by decide) (by decide))).trans (V_main_arg7 m c),
    (staged h c 6 rfl).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    (staged h c 7 rfl).trans (V_main_arg12 m c),
    ((h c).2 main_arg13 (Pipeline.mem_restRefs_of main_arg13 (by decide) (by decide))).trans (V_main_arg13 m c),
    (staged h c 8 rfl).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    (staged h c 9 rfl).trans (V_main_arg18 m c),
    ((h c).2 main_arg19 (Pipeline.mem_restRefs_of main_arg19 (by decide) (by decide))).trans (V_main_arg19 m c),
    (staged h c 10 rfl).trans (V_main_arg20 m c),
    ((h c).2 main_arg21 (Pipeline.mem_restRefs_of main_arg21 (by decide) (by decide))).trans (V_main_arg21 m c),
    ((h c).2 main_arg22 (Pipeline.mem_restRefs_of main_arg22 (by decide) (by decide))).trans (V_main_arg22 m c),
    ((h c).2 main_arg23 (Pipeline.mem_restRefs_of main_arg23 (by decide) (by decide))).trans (V_main_arg23 m c),
    (staged h c 1 rfl).trans (V_main_arg24 m c),
    ((h c).2 main_arg25 (Pipeline.mem_restRefs_of main_arg25 (by decide) (by decide))).trans (V_main_arg25 m c),
    ((h c).2 main_arg26 (Pipeline.mem_restRefs_of main_arg26 (by decide) (by decide))).trans (V_main_arg26 m c),
    ((h c).2 main_arg27 (Pipeline.mem_restRefs_of main_arg27 (by decide) (by decide))).trans (V_main_arg27 m c),
    ((h c).2 main_arg28 (Pipeline.mem_restRefs_of main_arg28 (by decide) (by decide))).trans (V_main_arg28 m c),
    (staged h c 0 rfl).trans (V_main_arg29 m c)⟩

theorem frame : θ_run defs (onTc (τ := τ) (main (F := F))) ⟨m, fun _ => 0, ρ⟩ (fun r => (∀ c : Dev nD, Kept m r c) ∧ r.2.sem = fun _ => 0) :=
  (θ_run defs _ _).mono (fun _ ⟨h, hs⟩ => ⟨kept h, hs⟩) (run_main m ρ)

end Cert.Weights

end

end
-- ==== Proof.WeightsArray.lean ====
/- The three arrays the call `weights_prep` writes, whole: they are the reference's. -/
module

public import proofs.«01_k».proof.Proof.WeightsBias
public import proofs.«01_k».proof.Proof.WeightsFrame

@[expose] public section

set_option maxRecDepth 16384

noncomputable section

namespace Cert.Weights

open Idealize.ShloMosaic Idealize.ShloMosaic.TcCoe Cert.Kernel3Ideal Cert.Kernel3Ideal.Gen Cert.WeightsRow
open Idealize.SL.Sem
open Idealize.ShloMosaic.Pipeline (Dat RDat)

variable (m : (ℓ : Loc nD τ sig) → Buf (Elt Ideal) ℓ) (c : Dev nD)

/-- The reference's scaled weights and projected rows at the kernel's arguments. -/
abbrev target15 : S4096x1024.Idx → EReal :=
  Reference3Ideal.Read.val_main_v182 (F := Ideal) (m ((c : Thread nD τ).loc main_arg24)) (m ((c : Thread nD τ).loc main_arg29))

abbrev target16 : S24x1024.Idx → EReal :=
  Reference3Ideal.Read.val_main_v148 (F := Ideal) (m ((c : Thread nD τ).loc main_arg3)) (m ((c : Thread nD τ).loc main_arg4))
    (m ((c : Thread nD τ).loc main_arg5)) (m ((c : Thread nD τ).loc main_arg24)) (m ((c : Thread nD τ).loc main_arg29))

/-! ## The scaled weights -/

/-- Where a point's block of scaled weights lies. -/
abbrev place (n : ℕ) : ℕ := if n < 2 then n else if n = 5 then 2 else 3

theorem place_lt (n : ℕ) : place n < 4 := by unfold place; split <;> [omega; split <;> omega]

/-- The points at which the block is written back. -/
theorem flush0_15 : ∀ t : Fin cfg0.N, (cfg0.win 15).flush t = true → t.val = 0 ∨ t.val = 1 ∨ t.val = 4 ∨ t.val = 5 :=
  (by decide +kernel : ∀ t : Fin grid0.N, win0_15.flush t = true → t.val = 0 ∨ t.val = 1 ∨ t.val = 4 ∨ t.val = 5)

/-- A row of a block of `int_W1` by its number in the whole. -/
theorem wts_eq (g : Fin 6) (r d : Fin 1024) (n : ℕ) (hn : n < 6144) (h : n = g.val * 1024 + r.val) :
    m ((c : Thread nD τ).loc main_arg24) (ix2 ⟨n, hn⟩ d) = wts m c g r d := by
  subst h; rfl

/-- The block a point writes back is the reference's. -/
theorem block15 (t : Fin cfg0.N) (hf : (cfg0.win 15).flush t = true) (X : Vec Ideal S1024x1024 .bf16) (h : (data m c).Leaves 15 t X)
    (r d : Fin 1024) : X (ix2 r d) = target15 m c (ix2 ⟨place t.val * 1024 + r.val, by have := place_lt t.val; omega⟩ d) := by
  obtain ⟨Y, -, h⟩ := h
  obtain ⟨z, h⟩ := (h : ∃ z, X = _)
  rw [h]
  obtain ⟨e0, e1, e2, e3⟩ := Reference3Ideal.Rows.w1m_at (m ((c : Thread nD τ).loc main_arg24)) (m ((c : Thread nD τ).loc main_arg29)) r d
  have hr := r.isLt
  rcases flush0_15 t hf with ht | ht | ht | ht
  · rw [out15_edge m c t 0 ht (by omega)]
    refine Eq.trans ?_ ((congrArg (fun i => target15 m c (ix2 i d)) (Fin.ext (by simp [ht, place]))).trans e0).symm
    rw [mul_comm, wts_eq m c 0 r d _ _ (by simp)]
  · rw [out15_edge m c t 1 ht (by omega)]
    refine Eq.trans ?_ ((congrArg (fun i => target15 m c (ix2 i d)) (Fin.ext (by simp [ht, place]))).trans e1).symm
    rw [mul_comm, wts_eq m c 1 r d _ _ (by simp)]
  · obtain rfl : t = pt 4 := Fin.ext ht
    refine (out15_mid m c Y z r d).trans ?_
    refine Eq.trans ?_ ((congrArg (fun i => target15 m c (ix2 i d)) (Fin.ext (by simp [place]))).trans e3).symm
    rw [mul_comm _ (part m c 2), mul_comm _ (part m c 3), mul_comm _ (part m c 4), wts_eq m c 2 r d _ _ (by simp), wts_eq m c 3 r d _ _ (by simp),
      wts_eq m c 4 r d _ _ (by simp)]
  · rw [out15_edge m c t 5 ht (by omega)]
    refine Eq.trans ?_ ((congrArg (fun i => target15 m c (ix2 i d)) (Fin.ext (by simp [ht, place]))).trans e2).symm
    rw [mul_comm, wts_eq m c 5 r d _ _ (by simp)]

/-! ## The projected rows -/

/-- What the window holds after a point is what that point makes of what it held before. -/
theorem leaves16_back (t : Fin cfg0.N) (ht : t.val ≠ 0) (X : Vec Ideal S24x1024 .f32) (h : (data m c).Leaves 16 t X) :
    ∃ Y, (data m c).Leaves 16 ⟨t.val - 1, Nat.lt_of_le_of_lt (Nat.sub_le _ _) t.isLt⟩ Y ∧ X = step16 m c Y t := by
  obtain ⟨Y, hY, hX⟩ := h
  refine ⟨Y, ?_, hX⟩
  rcases (RDat.finds_of_pos (data m c) (w := 16) (Pipeline.Window.fetch_out _ rfl t) ht Y).1 hY with h | h
  · have h' := (flush0_16 _).1 h
    have : t.val < 6 := Nat.lt_of_lt_of_eq t.isLt N_0
    simp only at h'
    omega
  · exact h

/-- So after the last point it is made of the points 0, 1 and 5. -/
theorem leaves16 (X : Vec Ideal S24x1024 .f32) (h : (data m c).Leaves 16 (pt 5) X) :
    ∃ Y, X = step16 m c (step16 m c (step16 m c Y (pt 0)) (pt 1)) (pt 5) := by
  obtain ⟨Y4, h4, e5⟩ := leaves16_back m c (pt 5) (by decide) X h
  obtain ⟨Y3, h3, e4⟩ := leaves16_back m c (pt 4) (by decide) Y4 h4
  obtain ⟨Y2, h2, e3⟩ := leaves16_back m c (pt 3) (by decide) Y3 h3
  obtain ⟨Y1, h1, e2⟩ := leaves16_back m c (pt 2) (by decide) Y2 h2
  obtain ⟨Y0, h0, e1⟩ := leaves16_back m c (pt 1) (by decide) Y1 h1
  obtain ⟨Y, -, hY⟩ := h0
  have hY : Y0 = step16 m c Y (pt 0) := hY
  refine ⟨Y, ?_⟩
  rw [e5, e4, e3, e2, e1, hY, step16_mid m c _ (pt 4) (by decide), step16_mid m c _ (pt 3) (by decide), step16_mid m c _ (pt 2) (by decide)]

theorem block16 (X : Vec Ideal S24x1024 .f32) (h : (data m c).Leaves 16 (pt 5) X) (i : Fin 24) (d : Fin 1024) :
    X (ix2 i d) = target16 m c (ix2 i d) := by
  obtain ⟨Y, rfl⟩ := leaves16 m c X h
  have rows : (∃ r : Fin 8, i = ⟨r.val, by omega⟩) ∨ (∃ r : Fin 8, i = ⟨8 + r.val, by omega⟩) ∨ ∃ r : Fin 8, i = ⟨16 + r.val, by omega⟩ := by
    rcases (by omega : i.val < 8 ∨ (8 ≤ i.val ∧ i.val < 16) ∨ 16 ≤ i.val) with h | h | h
    · exact .inl ⟨⟨i.val, h⟩, rfl⟩
    · exact .inr (.inl ⟨⟨i.val - 8, by omega⟩, Fin.ext (by simp only; omega)⟩)
    · exact .inr (.inr ⟨⟨i.val - 16, by omega⟩, Fin.ext (by simp only; omega)⟩)
  have ref := fun r : Fin 8 => Reference3Ideal.Rows.proj_at (m ((c : Thread nD τ).loc main_arg3)) (m ((c : Thread nD τ).loc main_arg4))
    (m ((c : Thread nD τ).loc main_arg5)) (m ((c : Thread nD τ).loc main_arg24)) (m ((c : Thread nD τ).loc main_arg29)) r d
  rcases rows with ⟨r, rfl⟩ | ⟨r, rfl⟩ | ⟨r, rfl⟩
  · refine (proj_rows m c Y r d).1.trans (Eq.trans ?_ (ref r).1.symm)
    split <;> [refine Finset.sum_congr rfl fun k _ => ?_; rfl]
    rw [turn, wts_eq m c 0 k d _ _ (by simp)]
  · refine (proj_rows m c Y r d).2.1.trans (Eq.trans ?_ (ref r).2.1.symm)
    split <;> [refine Finset.sum_congr rfl fun k _ => ?_; rfl]
    rw [turn, wts_eq m c 1 k d _ _ (by simp)]
  · refine (proj_rows m c Y r d).2.2.trans (Eq.trans ?_ (ref r).2.2.symm)
    split <;> [refine Finset.sum_congr rfl fun k _ => ?_; rfl]
    rw [turn, wts_eq m c 5 k d _ _ (by simp)]

/-! ## The bias rows -/

theorem block17 (X : Vec Ideal S4x1x1024 .f32) (h : (data m c).Leaves 17 (pt 5) X) (r : Fin 4) (d : Fin 1024) :
    X (ix3 r 0 d) = target17 m c (ix3 r 0 d) := by
  obtain ⟨Y, -, h⟩ := h
  obtain ⟨z, h⟩ := (h : ∃ z, X = _)
  rw [h]
  unfold out0_17
  rw [if_pos ((hcond0_6 (pt 5)).2 rfl)]
  exact bias_target m c z r d

/-! ## The arrays -/

section Arrays

variable (after : (w : Fin cfg0.W) → Fin cfg0.N → (cfg0.win w).block.Idx → Elt Ideal (cfg0.win w).elt)
  (H : ∀ (w : Fin cfg0.W) (u : Fin cfg0.N), (cfg0.win w).flush u = true → (data m c).Leaves w u (after w u))

include H

theorem array15 : ((data m c).withAfter after).arrAt 15 cfg0.N = target15 m c := by
  refine ((data m c).withAfter after).arrAt_eq_of_covers 15 _ (by decide +kernel) fun t hf y => ?_
  blk_simp
  refine (congrArg (after 15 t) (show y = ix2 (y 0 : Fin 1024) (y 1 : Fin 1024) by blk_ext [])).trans
    ((block15 m c t hf _ (H 15 t hf) (y 0) (y 1)).trans (congrArg (target15 m c) ?_))
  blk_ext [idx t]

theorem array16 : ((data m c).withAfter after).arrAt 16 cfg0.N = target16 m c := by
  refine ((data m c).withAfter after).arrAt_eq_of_covers 16 _ (by decide +kernel) fun t hf y => ?_
  obtain rfl : t = pt 5 := Fin.ext (by have h := (flush0_16 t).1 hf; have : t.val < 6 := Nat.lt_of_lt_of_eq t.isLt N_0; show t.val = 5; omega)
  blk_simp
  refine (congrArg (after 16 (pt 5)) (show y = ix2 (y 0 : Fin 24) (y 1 : Fin 1024) by blk_ext [])).trans
    ((block16 m c _ (H 16 (pt 5) hf) (y 0) (y 1)).trans (congrArg (target16 m c) ?_))
  blk_ext [idx (pt 5)]

theorem array17 : ((data m c).withAfter after).arrAt 17 cfg0.N = target17 m c := by
  refine ((data m c).withAfter after).arrAt_eq_of_covers 17 _ (by decide +kernel) fun t hf y => ?_
  obtain rfl : t = pt 5 := Fin.ext (by have h := (flush0_17 t).1 hf; have : t.val < 6 := Nat.lt_of_lt_of_eq t.isLt N_0; show t.val = 5; omega)
  blk_simp
  refine (congrArg (after 17 (pt 5)) (show y = ix3 (y 0 : Fin 4) (0 : Fin 1) (y 2 : Fin 1024) by blk_ext [])).trans
    ((block17 m c _ (H 17 (pt 5) hf) (y 0) (y 2)).trans (congrArg (target17 m c) ?_))
  blk_ext [idx (pt 5)]

end Arrays

/-- Every run ends with the three arrays the reference's, and the arguments as they were. -/
theorem run_values (ρ : Dev nD → PrngReg) : θ_run defs (onTc (τ := τ) (main (F := Ideal))) ⟨m, fun _ => 0, ρ⟩ (fun r => ∀ c : Dev nD,
      r.2.mem ((c : Thread nD τ).loc main_v17_0) = target15 m c
      ∧ r.2.mem ((c : Thread nD τ).loc main_v17_1) = target16 m c
      ∧ r.2.mem ((c : Thread nD τ).loc main_v17_2) = target17 m c
      ∧ Kept m r c) :=
  (θ_run defs _ _).mono (fun _ ⟨h, _⟩ c => by
    obtain ⟨after, H, hA⟩ := RDat.FramePost.exists_exact h c
    exact ⟨(hA 15).trans (array15 m c after H), (hA 16).trans (array16 m c after H), (hA 17).trans (array17 m c after H), kept h c⟩)
    (run_main m ρ)

end Cert.Weights
end
-- ==== Proof.WeightsClaim.lean ====
/- The claims of the call `weights_prep`: the frames of the program and of its reference, and the equation of their results. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.WeightsArray
public import Idealize.ShloMosaic.Lib.Claim
public import Idealize.ShloMosaic.Adequacy
public import Idealize.ShloMosaic.Init

@[expose] public section

noncomputable section

namespace Cert.Weights

open Idealize.ShloMosaic Idealize.SL.Sem

local instance : Cert.Kernel3.Facts := Cert.Kernel3.Gen.facts
local instance : Cert.Kernel3Ideal.Facts := Cert.Kernel3Ideal.Gen.facts
local instance : Cert.Reference3Ideal.Facts := Cert.Reference3Ideal.Gen.facts

set_option maxHeartbeats 2000000 in
/-- The two programs of the weights' call have the same bodies. -/
theorem defs_eq : Cert.Kernel3.defs (F := Bits) = Cert.Kernel3Ideal.defs (F := Bits) := by
  have h : Cert.Kernel3.defs₀ (F := Bits) = Cert.Kernel3Ideal.defs₀ (F := Bits) := by
    refine congrArg (Defs.onTc (nD := Cert.Kernel3.nD) (τ := Cert.Kernel3.τ)) ?_
    funext l a
    match l, a with
    | 0, (t, s) => rfl
  exact congrArg (Pipeline.defs Cert.Kernel3.pcfgs) h

set_option maxHeartbeats 2000000 in
/-- The weights' call runs, and leaves its arguments and the counters alone. -/
theorem kernel_frame : Cert.quiescent_Kernel3 := by
  intro m g _
  have h := Cert.Weights.frame (F := Bits) m g
  rw [← defs_eq] at h
  exact h

/-- So does its reference. -/
theorem reference_frame : Cert.quiescent_Reference3Ideal := by
  intro m g _
  run_from Cert.Reference3Ideal.Value.run m g
  · exact fun _ => by simp only [and_self]
  · exact sem_eq_zero_of_no_sems (sig := Cert.Reference3Ideal.sig) rfl _

set_option maxHeartbeats 4000000 in
/-- The weights' call and its reference leave the same three arrays. -/
theorem algebraic : Cert.algebraic_Kernel3Ideal_Reference3Ideal := by
  pair_intro
  · run_from Cert.Weights.run_values m g
  · refine (θ_run _ _ _).mono (fun r h c => ?_) (Cert.Reference3Ideal.Value.run m' g')
    obtain ⟨h0, h1, h2, hargs⟩ := h c
    obtain ⟨e0, e1, e2, e3, e4, e5, e6, e7, e8, e9, e10, e11, e12, e13, e14, e15, e16, e17, e18, e19, e20, e21, e22, e23, e24, e25, e26, e27,
      e28, e29⟩ := hagree c
    refine ⟨h0.trans ?_, h1.trans ?_, h2.trans ?_, hargs⟩
    · refine (Cert.Reference3Ideal.Read.val_main_v182_eq (StableHlo.launchContents m' c)).trans ?_
      show Cert.Reference3Ideal.Read.val_main_v182 (F := Ideal)
        (m' ((c.tc : Thread _ Cert.Reference3Ideal.τ).loc Cert.Reference3Ideal.main_arg24)) (m' (c.tc.loc Cert.Reference3Ideal.main_arg29)) = _
      rw [e24, e29]
    · refine (Cert.Reference3Ideal.Read.val_main_v148_eq (StableHlo.launchContents m' c)).trans ?_
      show Cert.Reference3Ideal.Read.val_main_v148 (F := Ideal)
        (m' ((c.tc : Thread _ Cert.Reference3Ideal.τ).loc Cert.Reference3Ideal.main_arg3)) (m' (c.tc.loc Cert.Reference3Ideal.main_arg4)) (m'
        (c.tc.loc Cert.Reference3Ideal.main_arg5)) (m' (c.tc.loc Cert.Reference3Ideal.main_arg24)) (m' (c.tc.loc
        Cert.Reference3Ideal.main_arg29)) = _
      rw [e3, e4, e5, e24, e29]
    · refine (Cert.Reference3Ideal.Read.val_main_v183_eq (StableHlo.launchContents m' c)).trans ?_
      show Cert.Reference3Ideal.Read.val_main_v183 (F := Ideal)
        (m' ((c.tc : Thread _ Cert.Reference3Ideal.τ).loc Cert.Reference3Ideal.main_arg0)) (m' (c.tc.loc Cert.Reference3Ideal.main_arg1)) (m'
        (c.tc.loc Cert.Reference3Ideal.main_arg2)) (m' (c.tc.loc Cert.Reference3Ideal.main_arg6)) (m' (c.tc.loc
        Cert.Reference3Ideal.main_arg7)) (m' (c.tc.loc Cert.Reference3Ideal.main_arg8)) (m' (c.tc.loc Cert.Reference3Ideal.main_arg9)) (m'
        (c.tc.loc Cert.Reference3Ideal.main_arg10)) (m' (c.tc.loc Cert.Reference3Ideal.main_arg11)) (m' (c.tc.loc
        Cert.Reference3Ideal.main_arg12)) (m' (c.tc.loc Cert.Reference3Ideal.main_arg13)) (m' (c.tc.loc Cert.Reference3Ideal.main_arg14)) (m'
        (c.tc.loc Cert.Reference3Ideal.main_arg15)) (m' (c.tc.loc Cert.Reference3Ideal.main_arg16)) (m' (c.tc.loc
        Cert.Reference3Ideal.main_arg17)) (m' (c.tc.loc Cert.Reference3Ideal.main_arg18)) (m' (c.tc.loc Cert.Reference3Ideal.main_arg19)) (m'
        (c.tc.loc Cert.Reference3Ideal.main_arg20)) (m' (c.tc.loc Cert.Reference3Ideal.main_arg21)) (m' (c.tc.loc
        Cert.Reference3Ideal.main_arg22)) (m' (c.tc.loc Cert.Reference3Ideal.main_arg23)) (m' (c.tc.loc Cert.Reference3Ideal.main_arg24)) (m'
        (c.tc.loc Cert.Reference3Ideal.main_arg25)) (m' (c.tc.loc Cert.Reference3Ideal.main_arg29)) = _
      rw [e0, e1, e2, e6, e7, e8, e9, e10, e11, e12, e13, e14, e15, e16, e17, e18, e19, e20, e21, e22, e23, e24, e25, e29]

end Cert.Weights

end
-- ==== Proof.Blocks.lean ====
/- The blocks of a grid point, read off the arguments. -/
module

public import proofs.«01_k».proof.Proof.Gen.KernelIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KernelIdeal.Blocks

open Idealize.ShloMosaic Idealize.ShloMosaic.TcCoe Cert.KernelIdeal Cert.KernelIdeal.Gen

variable (m : (ℓ : Loc nD τ sig) → Buf (Elt Ideal) ℓ) (c : Dev nD) (t : Fin cfg0.N)

/-- Where each window stands at a grid point: four tiles for each of the four batch rows. -/
theorem idx : ∀ t : Fin cfg0.N, win0_0.index t = ![t.val / 4, t.val % 4, 0] ∧ win0_1.index t = ![t.val / 4, t.val % 4, 0, 0]
    ∧ win0_2.index t = ![0, 0] ∧ win0_3.index t = ![0, 0] ∧ win0_4.index t = ![0, 0] ∧ win0_5.index t = ![0, 0] ∧ win0_6.index t = ![0, 0]
    ∧ win0_7.index t = ![t.val / 4, 0, 0] ∧ win0_8.index t = ![0, 0] ∧ win0_9.index t = ![t.val / 4, t.val % 4, 0] :=
  (by decide +kernel : ∀ t : Fin grid0.N, _)

/-- The point's batch row. -/
abbrev bat : Fin 4 := ⟨t.val / 4, by have h : t.val < 16 := t.isLt; omega⟩

/-- The token of a tile's row. -/
abbrev tok (r : Fin 512) : Fin 2048 := ⟨t.val % 4 * 512 + r.val, by omega⟩

theorem x_at (r : Fin 512) (k : Fin 1024) :
    iblk m c 0 t (ix3 0 r k) = m ((c : Thread nD τ).loc main_arg0) (ix3 (bat t) (tok t r) k) := by
  blk_ext [iblk, V, idx t]

theorem ids_at (q : Fin 4) (r : Fin 512) :
    iblk m c 1 t (ix4 0 0 q r) = V m c main_v8 (ix4 (bat t) ⟨t.val % 4, by omega⟩ q r) := by
  blk_ext [iblk, idx t]

theorem pw_at (i : Fin 1024) (k : Fin 2048) : iblk m c 2 t (ix2 i k) = m ((c : Thread nD τ).loc main_arg5) (ix2 i k) := by
  blk_ext [iblk, V, idx t]

theorem small_at (i : Fin 24) (k : Fin 1024) : iblk m c 3 t (ix2 i k) = m ((c : Thread nD τ).loc main_arg6) (ix2 i k) := by
  blk_ext [iblk, V, idx t]

theorem w_at (i : Fin 4096) (k : Fin 1024) : iblk m c 4 t (ix2 i k) = m ((c : Thread nD τ).loc main_arg7) (ix2 i k) := by
  blk_ext [iblk, V, idx t]

theorem proj_at (i : Fin 24) (k : Fin 1024) : iblk m c 5 t (ix2 i k) = m ((c : Thread nD τ).loc main_arg8) (ix2 i k) := by
  blk_ext [iblk, V, idx t]

theorem v_at (i k : Fin 1024) : iblk m c 6 t (ix2 i k) = m ((c : Thread nD τ).loc main_arg9) (ix2 i k) := by
  blk_ext [iblk, V, idx t]

theorem bias_at (k : Fin 1024) : iblk m c 7 t (ix3 0 0 k) = m ((c : Thread nD τ).loc main_arg10) (ix3 (bat t) 0 k) := by
  blk_ext [iblk, V, idx t]

theorem aux_at (i : Fin 16) (k : Fin 1024) : iblk m c 8 t (ix2 i k) = m ((c : Thread nD τ).loc main_arg11) (ix2 i k) := by
  blk_ext [iblk, V, idx t]

/-- The four id arrays, stacked. -/
theorem stack_at (b j q : Fin 4) (r : Fin 512) : V m c main_v8 (ix4 b j q r)
    = (![m ((c : Thread nD τ).loc main_arg1) (ix2 b ⟨j.val * 512 + r.val, by omega⟩), m ((c : Thread nD τ).loc main_arg2) (ix2 b ⟨j.val * 512 + r.val, by omega⟩),
        m ((c : Thread nD τ).loc main_arg3) (ix2 b ⟨j.val * 512 + r.val, by omega⟩), m ((c : Thread nD τ).loc main_arg4) (ix2 b ⟨j.val * 512 + r.val, by omega⟩)]
      : Fin 4 → BitVec 32) q := by
  unfold V
  fin_cases q
  all_goals
    after_reads_at
    rw [StableHlo.unary_result]
    after_reads_at

end Cert.KernelIdeal.Blocks
end
-- ==== Proof.Gather.lean ====
/- Table rows taken by id, as the reference writes them: a wrap of negative ids, then a gather of whole rows. -/
module

public import proofs.«01_k».proof.Proof.Row
public import Idealize.ShloMosaic.Lib.Pointwise
public import Idealize.ShloMosaic.Lib.WordCmp

@[expose] public section

set_option maxRecDepth 16384

noncomputable section

namespace Cert.Gather

open Idealize.ShloMosaic

/-- The word of a small number is not negative, so the wrap leaves it. -/
theorem wrap (a : ℕ) (ha : a < 1024) (y : BitVec 32) :
    Scalar.select (IntOp.cmpi .slt (BitVec.ofNat 32 a) 0#32) y (BitVec.ofNat 32 a) = BitVec.ofNat 32 a := by
  have h : IntOp.cmpi .slt (BitVec.ofNat 32 a) 0#32 = 0#1 := by
    rw [WordCmp.cmpi_slt_eq]
    have : (BitVec.ofNat 32 a).toInt = a := by
      rw [BitVec.toInt_eq_toNat_of_lt] <;> simp only [BitVec.toNat_ofNat] <;> omega
    rw [this, show (0#32 : BitVec 32).toInt = 0 from rfl, decide_eq_false (by omega)]
    rfl
  rw [h]
  rfl

/-- Whole rows of a table of `N` rows, one row number for each token. -/
abbrev rowDims (N : ℕ) (wf : GatherDims.WF ⟨2, ![N, 1024]⟩ ⟨3, ![4, 2048, 1]⟩ ⟨3, ![4, 2048, 1024]⟩ [2] [0] [] [0] [] 2 ![1, 1024]) :
    GatherDims ⟨2, ![N, 1024]⟩ ⟨3, ![4, 2048, 1]⟩ ⟨3, ![4, 2048, 1024]⟩ where
  offsetDims := [2]
  collapsedSliceDims := [0]
  operandBatchingDims := []
  startIndicesBatchingDims := []
  startIndexMap := [0]
  indexVectorDim := 2
  sliceSizes := ![1, 1024]
  wf := wf

/-- The gather at a token whose row number is in the table reads that row. -/
theorem row_at {N : ℕ} (hN : N ≤ 1024) (wf) (x : (⟨2, ![N, 1024]⟩ : Shape).Idx → EReal) (idx : IVec ⟨3, ![4, 2048, 1]⟩ 32)
    (b : Fin 4) (s : Fin 2048) (d : Fin 1024) (a : Fin N) (h : idx (ix3 b s 0) = BitVec.ofNat 32 a.val) :
    Host.gather (rowDims N wf) x idx (ix3 b s d) = x (ix2 a d) := by
  unfold Host.gather
  refine congrArg x (funext fun i => Fin.ext ?_)
  show (rowDims N wf).start (ix3 b s d) idx i + (rowDims N wf).batchCoord (ix3 b s d) i + (rowDims N wf).offCoord (ix3 b s d) i = _
  rw [GatherDims.batchCoord_eq_zero _ _ _ List.not_mem_nil, Nat.add_zero]
  match i with
  | ⟨0, _⟩ =>
    have off : (rowDims N wf).offCoord (ix3 b s d) 0 = 0 :=
      GatherDims.offCoord_eq_zero _ _ _ fun h => ((GatherDims.mem_sKept _ _).mp h).1 (List.mem_singleton.mpr rfl)
    have at0 : (rowDims N wf).siIdx (ix3 b s d) ⟨List.idxOf (0 : Fin 2) (rowDims N wf).startIndexMap,
        List.idxOf_lt_length_iff.2 (List.mem_singleton.mpr rfl)⟩ = ix3 b s 0 := by
      funext q
      match q with
      | ⟨0, _⟩ => rfl
      | ⟨1, _⟩ => rfl
      | ⟨2, _⟩ => rfl
    have st : (rowDims N wf).start (ix3 b s d) idx 0 = a.val := by
      unfold GatherDims.start
      rw [dif_pos (show (0 : Fin 2) ∈ (rowDims N wf).startIndexMap from List.mem_singleton.mpr rfl), at0, h]
      have e : (BitVec.ofNat 32 a.val).toInt = a.val := by
        rw [BitVec.toInt_eq_toNat_of_lt] <;> simp only [BitVec.toNat_ofNat] <;> omega
      rw [e]
      show min ((a.val : ℤ)).toNat (N - 1) = a.val
      omega
    exact (congrArg₂ (· + ·) st off).trans (Nat.add_zero _)
  | ⟨1, _⟩ =>
    have st : (rowDims N wf).start (ix3 b s d) idx 1 = 0 := by
      unfold GatherDims.start
      exact dif_neg (fun h => absurd (congrArg Fin.val (List.mem_singleton.mp h)) Nat.one_ne_zero)
    exact (congrArg (· + _) st).trans ((Nat.zero_add _).trans rfl)

end Cert.Gather
end
-- ==== Proof.ReferenceRow.lean ====
/- What the reference computes, read at one token and one channel. -/
module

public import proofs.«01_k».proof.Proof.Row
public import proofs.«01_k».proof.Proof.Gen.ReferenceIdeal.Read
public import proofs.«01_k».proof.Proof.Gather
public import Idealize.ShloMosaic.Lib.Pointwise

@[expose] public section

set_option maxRecDepth 16384

noncomputable section

namespace Cert.ReferenceIdeal.Rows

open Idealize.ShloMosaic Idealize.ShloMosaic.TcCoe Idealize.SL.Sem Cert.ReferenceIdeal Cert.ReferenceIdeal.Gen Cert.ReferenceIdeal.Read Cert.Row

variable (x0 : FVec Ideal S4x2048x1024 .f32) (x1 x2 x3 x4 : IVec S4x2048 32) (x5 : FVec Ideal S1024x2048 .bf16)
  (x6 : FVec Ideal S24x1024 .bf16) (x7 : FVec Ideal S4096x1024 .bf16) (x8 : FVec Ideal S24x1024 .f32)
  (x9 : FVec Ideal S1024x1024 .bf16) (x10 : FVec Ideal S4x1x1024 .f32) (x11 : FVec Ideal S16x1024 .f32)

variable (b : Fin 4) (s : Fin 2048) (a : Fin 1024) (c t g : Fin 8)
  (h1 : x1 (ix2 b s) = BitVec.ofNat 32 a.val) (h2 : x2 (ix2 b s) = BitVec.ofNat 32 c.val)
  (h3 : x3 (ix2 b s) = BitVec.ofNat 32 t.val) (h4 : x4 (ix2 b s) = BitVec.ofNat 32 g.val)

include h1 in
/-- The scale row of the first id. -/
theorem v24_at (d : Fin 1024) : val_main_v24 (F := Ideal) x1 x5 (ix3 b s d) = x5 (ix2 a ⟨d.val, by omega⟩) + 1 := by
  refine (Gather.row_at (by omega) _ _ _ b s d a ?_).trans ?_
  · pointwise [val_main_c, val_main_v18, val_main_v19, val_main_c_3, val_main_v20, val_main_v21, val_main_v22, val_main_v23]
    rw [h1, Gather.wrap _ (by omega)]
  · pointwise [val_main_v0, val_main_v1, val_main_cst, val_main_v2, val_main_v3]

include h1 in
/-- The offset row of the first id. -/
theorem v31_at (d : Fin 1024) : val_main_v31 (F := Ideal) x1 x5 (ix3 b s d) = x5 (ix2 a ⟨1024 + d.val, by omega⟩) := by
  refine (Gather.row_at (by omega) _ _ _ b s d a ?_).trans ?_
  · pointwise [val_main_c_4, val_main_v25, val_main_v26, val_main_c_5, val_main_v27, val_main_v28, val_main_v29, val_main_v30]
    rw [h1, Gather.wrap _ (by omega)]
  · pointwise [val_main_v4, val_main_v5]

include h2 in
/-- The compartment's scale row. -/
theorem v58_at (d : Fin 1024) : val_main_v58 (F := Ideal) x2 x6 (ix3 b s d) = x6 (ix2 ⟨c.val, by omega⟩ d) + 1 := by
  refine (Gather.row_at (by omega) _ _ _ b s d c ?_).trans ?_
  · pointwise [val_main_c_11, val_main_v52, val_main_v53, val_main_c_12, val_main_v54, val_main_v55, val_main_v56, val_main_v57]
    rw [h2, Gather.wrap _ (by omega)]
  · pointwise [val_main_v6, val_main_v7, val_main_cst_0, val_main_v8, val_main_v9]

include h3 in
/-- The time step's scale row. -/
theorem v86_at (d : Fin 1024) : val_main_v86 (F := Ideal) x3 x6 (ix3 b s d) = x6 (ix2 ⟨8 + t.val, by omega⟩ d) + 1 := by
  refine (Gather.row_at (by omega) _ _ _ b s d t ?_).trans ?_
  · pointwise [val_main_c_19, val_main_v80, val_main_v81, val_main_c_20, val_main_v82, val_main_v83, val_main_v84, val_main_v85]
    rw [h3, Gather.wrap _ (by omega)]
  · pointwise [val_main_v10, val_main_v11, val_main_cst_1, val_main_v12, val_main_v13]

include h4 in
/-- The sampling scale's row. -/
theorem v114_at (d : Fin 1024) : val_main_v114 (F := Ideal) x4 x6 (ix3 b s d) = x6 (ix2 ⟨16 + g.val, by omega⟩ d) + 1 := by
  refine (Gather.row_at (by omega) _ _ _ b s d g ?_).trans ?_
  · pointwise [val_main_c_27, val_main_v108, val_main_v109, val_main_c_28, val_main_v110, val_main_v111, val_main_v112, val_main_v113]
    rw [h4, Gather.wrap _ (by omega)]
  · pointwise [val_main_v14, val_main_v15, val_main_cst_2, val_main_v16, val_main_v17]

include h2 h3 h4 in
/-- The shift of the three small ids. -/
theorem v161_at (d : Fin 1024) : val_main_v161 (F := Ideal) x2 x3 x4 x8 (ix3 b s d)
    = x8 (ix2 ⟨c.val, by omega⟩ d) + x8 (ix2 ⟨8 + t.val, by omega⟩ d) + x8 (ix2 ⟨16 + g.val, by omega⟩ d) := by
  have e2 : val_main_v143 (F := Ideal) x2 x8 (ix3 b s d) = x8 (ix2 ⟨c.val, by omega⟩ d) := by
    refine (Gather.row_at (by omega) _ _ _ b s d c ?_).trans ?_
    · pointwise [val_main_c_35, val_main_v137, val_main_v138, val_main_c_36, val_main_v139, val_main_v140, val_main_v141, val_main_v142]
      rw [h2, Gather.wrap _ (by omega)]
    · pointwise [val_main_v136]
  have e3 : val_main_v151 (F := Ideal) x3 x8 (ix3 b s d) = x8 (ix2 ⟨8 + t.val, by omega⟩ d) := by
    refine (Gather.row_at (by omega) _ _ _ b s d t ?_).trans ?_
    · pointwise [val_main_c_37, val_main_v145, val_main_v146, val_main_c_38, val_main_v147, val_main_v148, val_main_v149, val_main_v150]
      rw [h3, Gather.wrap _ (by omega)]
    · pointwise [val_main_v144]
  have e4 : val_main_v160 (F := Ideal) x4 x8 (ix3 b s d) = x8 (ix2 ⟨16 + g.val, by omega⟩ d) := by
    refine (Gather.row_at (by omega) _ _ _ b s d g ?_).trans ?_
    · pointwise [val_main_c_39, val_main_v154, val_main_v155, val_main_c_40, val_main_v156, val_main_v157, val_main_v158, val_main_v159]
      rw [h4, Gather.wrap _ (by omega)]
    · pointwise [val_main_v153]
  pointwise [val_main_v161, val_main_v152, e2, e3, e4]

/-- The token's row and its parameters. -/
abbrev row : R := fun k => x0 (ix3 b s k)
abbrev par : Params := params a c t g (fun i k => x5 (ix2 i k)) (fun i k => x6 (ix2 i k)) (fun i k => x7 (ix2 i k))
  (fun i k => x8 (ix2 i k)) (fun i k => x9 (ix2 i k)) (fun k => x10 (ix3 b 0 k)) (fun i k => x11 (ix2 i k))

include h1 in
/-- The first norm, scaled and offset. -/
theorem v51_at (d : Fin 1024) : val_main_v51 (F := Ideal) x0 x1 x5 (ix3 b s d)
    = first normDist (row x0 b s) (par x5 x6 x7 x8 x9 x10 x11 b a c t g) d := by
  pointwise [val_main_cst_6, val_main_v32, val_main_v33, val_main_cst_7, val_main_v34, val_main_v35, val_main_v36, val_main_v37, val_main_v38,
    val_main_cst_8, val_main_v39, val_main_v40, val_main_cst_9, val_main_v41, val_main_v42, val_main_v43, val_main_v44, val_main_cst_10,
    val_main_v45, val_main_v46, val_main_v47, val_main_v48, val_main_v49, val_main_v50, val_main_v51,
    v24_at x1 x5 b s a h1, v31_at x1 x5 b s a h1, first, normDist, mean, params]

include h1 h2 in
/-- The second norm, scaled by compartment. -/
theorem v79_at (d : Fin 1024) : val_main_v79 (F := Ideal) x0 x1 x2 x5 x6 (ix3 b s d)
    = normDist (first normDist (row x0 b s) (par x5 x6 x7 x8 x9 x10 x11 b a c t g)) d
      * (par x5 x6 x7 x8 x9 x10 x11 b a c t g).cg d := by
  rw [← show (fun d => val_main_v51 (F := Ideal) x0 x1 x5 (ix3 b s d)) = _ from
    funext (v51_at x0 x1 x5 x6 x7 x8 x9 x10 x11 b s a c t g h1)]
  pointwise [val_main_cst_13, val_main_v59, val_main_v60, val_main_cst_14, val_main_v61, val_main_v62, val_main_v63, val_main_v64, val_main_v65,
    val_main_cst_15, val_main_v66, val_main_v67, val_main_cst_16, val_main_v68, val_main_v69, val_main_v70, val_main_v71,
    val_main_cst_17, val_main_v72, val_main_v73, val_main_v74, val_main_v75, val_main_v76, val_main_v77, val_main_cst_18, val_main_v78,
    val_main_v79,
    v58_at x2 x6 b s c h2, normDist, mean, params]

include h3 in
/-- The row's norm scaled by time step. -/
theorem v107_at (d : Fin 1024) : val_main_v107 (F := Ideal) x0 x3 x6 (ix3 b s d)
    = normDist (row x0 b s) d * (par x5 x6 x7 x8 x9 x10 x11 b a c t g).tg d := by
  pointwise [val_main_cst_21, val_main_v87, val_main_v88, val_main_cst_22, val_main_v89, val_main_v90, val_main_v91, val_main_v92, val_main_v93,
    val_main_cst_23, val_main_v94, val_main_v95, val_main_cst_24, val_main_v96, val_main_v97, val_main_v98, val_main_v99,
    val_main_cst_25, val_main_v100, val_main_v101, val_main_v102, val_main_v103, val_main_v104, val_main_v105, val_main_cst_26,
    val_main_v106, val_main_v107,
    v86_at x3 x6 b s t h3, normDist, mean, params]

include h4 in
/-- The row's norm scaled by sampling scale. -/
theorem v135_at (d : Fin 1024) : val_main_v135 (F := Ideal) x0 x4 x6 (ix3 b s d)
    = normDist (row x0 b s) d * (par x5 x6 x7 x8 x9 x10 x11 b a c t g).sg d := by
  pointwise [val_main_cst_29, val_main_v115, val_main_v116, val_main_cst_30, val_main_v117, val_main_v118, val_main_v119, val_main_v120,
    val_main_v121, val_main_cst_31, val_main_v122, val_main_v123, val_main_cst_32, val_main_v124, val_main_v125, val_main_v126,
    val_main_v127, val_main_cst_33, val_main_v128, val_main_v129, val_main_v130, val_main_v131, val_main_v132, val_main_v133,
    val_main_cst_34, val_main_v134, val_main_v135,
    v114_at x4 x6 b s g h4, normDist, mean, params]

include h1 h2 h3 h4 in
/-- What goes into the gated unit. -/
theorem v167_at (d : Fin 1024) : val_main_v167 (F := Ideal) x0 x1 x2 x3 x4 x5 x6 x7 x8 x10 (ix3 b s d)
    = pre normDist (row x0 b s) (par x5 x6 x7 x8 x9 x10 x11 b a c t g) d := by
  pointwise [val_main_v162, val_main_v163, val_main_v164, val_main_v165, val_main_v166, val_main_v167,
    v161_at x2 x3 x4 x8 b s c t g h2 h3 h4,
    v79_at x0 x1 x2 x5 x6 x7 x8 x9 x10 x11 b s a c t g h1 h2, v107_at x0 x3 x5 x6 x7 x8 x9 x10 x11 b s a c t g h3,
    v135_at x0 x4 x5 x6 x7 x8 x9 x10 x11 b s a c t g h4, pre, side]
  rfl

include h1 h2 h3 h4 in
/-- The second projection with its bias. -/
theorem v175_at (d : Fin 1024) : val_main_v175 (F := Ideal) x0 x1 x2 x3 x4 x5 x6 x7 x8 x9 x10 x11 (ix3 b s d)
    = second normDist (row x0 b s) (par x5 x6 x7 x8 x9 x10 x11 b a c t g) d := by
  pointwise [val_main_call0_v0, val_main_call0_v1, val_main_call0_cst, val_main_call0_v2, val_main_call0_v3, val_main_call0_cst_0,
    val_main_call0_v4, val_main_call0_v5, val_main_v168, val_main_v169, val_main_v170, val_main_v171, val_main_v172, val_main_v173,
    val_main_v174, val_main_v175,
    v167_at x0 x1 x2 x3 x4 x5 x6 x7 x8 x9 x10 x11 b s a c t g h1 h2 h3 h4, second, Ideal.logistic]
  rfl

include h1 h2 h3 h4 in
/-- The reference's result at one token and channel: the row of the token. -/
theorem result_at (d : Fin 1024) : val_main_v203 (F := Ideal) x0 x1 x2 x3 x4 x5 x6 x7 x8 x9 x10 x11 (ix3 b s d)
    = out normDist (row x0 b s) (par x5 x6 x7 x8 x9 x10 x11 b a c t g) d := by
  unfold out
  rw [← show (fun d => val_main_v175 (F := Ideal) x0 x1 x2 x3 x4 x5 x6 x7 x8 x9 x10 x11 (ix3 b s d)) = _ from
    funext (v175_at x0 x1 x2 x3 x4 x5 x6 x7 x8 x9 x10 x11 b s a c t g h1 h2 h3 h4)]
  pointwise [val_main_v176, val_main_v177, val_main_v178, val_main_v179, val_main_cst_41, val_main_v180, val_main_v181, val_main_cst_42,
    val_main_v182, val_main_v183, val_main_v184, val_main_v185, val_main_v186, val_main_cst_43, val_main_v187, val_main_v188,
    val_main_cst_44, val_main_v189, val_main_v190, val_main_v191, val_main_v192, val_main_cst_45, val_main_v193, val_main_v194,
    val_main_v195, val_main_v196, val_main_v197, val_main_v198, val_main_v199, val_main_v200, val_main_v201, val_main_v202,
    val_main_v203,
    normDist, mean, params]

end Cert.ReferenceIdeal.Rows
end
-- ==== Proof.Moments.lean ====
/- Numbers that are neither infinity, and the two ways to write a row's variance. -/
module

public import proofs.«01_k».proof.Proof.Row

@[expose] public section

noncomputable section

namespace Cert.Row

open Idealize.ShloMosaic

/-- A number of the line, neither infinity. -/
def Finite (x : EReal) : Prop := ∃ r : ℝ, x = r

theorem Finite.of_ne {x : EReal} (h : x ≠ ⊤) (h' : x ≠ ⊥) : Finite x := ⟨x.toReal, (EReal.coe_toReal h h').symm⟩

theorem Finite.one : Finite 1 := ⟨1, EReal.coe_one.symm⟩

theorem Finite.add {x y : EReal} : Finite x → Finite y → Finite (x + y)
  | ⟨r, hr⟩, ⟨s, hs⟩ => ⟨r + s, by rw [hr, hs, EReal.coe_add]⟩

theorem Finite.sub {x y : EReal} : Finite x → Finite y → Finite (x - y)
  | ⟨r, hr⟩, ⟨s, hs⟩ => ⟨r - s, by rw [hr, hs, EReal.coe_sub]⟩

theorem Finite.mul {x y : EReal} : Finite x → Finite y → Finite (x * y)
  | ⟨r, hr⟩, ⟨s, hs⟩ => ⟨r * s, by rw [hr, hs, EReal.coe_mul]⟩

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem Finite.sum {n : ℕ} {f : Fin n → EReal} (h : ∀ k, Finite (f k)) : Finite (∑ k, f k) := by
  choose r hr using h
  exact ⟨∑ k, r k, by rw [← coe_sum]; exact Finset.sum_congr rfl fun k _ => hr k⟩

theorem Finite.logistic {x : EReal} : Finite x → Finite (Ideal.logistic x)
  | ⟨r, hr⟩ => ⟨_, by rw [hr, Ideal.logistic_coe]⟩

theorem width : Ideal.ofBits .f32 0x44800000#32 = ((1024 : ℝ) : EReal) := by
  simp [Ideal.ofBits, Ideal.ieee, -EReal.coe_mul]; norm_num

/-- The number under the root beside the variance is a positive real. -/
theorem eps : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

theorem mean_coe (f : Fin 1024 → ℝ) : mean (fun k => (f k : EReal)) = (((∑ k, f k) / 1024 : ℝ) : EReal) := by
  rw [mean, width, Ideal.div_coe (by norm_num), coe_sum, ← EReal.coe_mul, mul_one_div]

/-- The mean of the squares less the square of the mean is the mean of the squared distances. -/
theorem variance (f : Fin 1024 → ℝ) :
    (∑ k, f k * f k) / 1024 - (∑ k, f k) / 1024 * ((∑ k, f k) / 1024)
      = (∑ k, (f k - (∑ k, f k) / 1024) * (f k - (∑ k, f k) / 1024)) / 1024 := by
  generalize hS : ∑ k, f k = S
  have h : ∀ k, (f k - S / 1024) * (f k - S / 1024) = f k * f k - 2 * (S / 1024) * f k + S / 1024 * (S / 1024) := fun k => by ring
  simp only [h, Finset.sum_add_distrib, Finset.sum_sub_distrib, ← Finset.mul_sum, hS, Finset.sum_const, Finset.card_univ,
    Fintype.card_fin, nsmul_eq_mul]
  push_cast
  ring

/-- On a row of numbers the two norms agree. -/
theorem norm_eq {h : R} (hh : ∀ k, Finite (h k)) : normSq h = normDist h := by
  choose f hf using hh
  obtain rfl : h = fun k => (f k : EReal) := funext hf
  funext d
  unfold normSq normDist
  simp only [mean_coe, ← EReal.coe_mul, ← EReal.coe_sub, variance]

/-- The norm of a row of numbers is a row of numbers. -/
theorem norm_finite {h : R} (hh : ∀ k, Finite (h k)) (d : Fin 1024) : Finite (normDist h d) := by
  choose f hf using hh
  obtain rfl : h = fun k => (f k : EReal) := funext hf
  obtain ⟨e, he, ee⟩ := eps
  unfold normDist
  simp only [mean_coe, ← EReal.coe_mul, ← EReal.coe_sub, ee, ← EReal.coe_add]
  have pos : 0 < (∑ k, (f k - (∑ k, f k) / 1024) * (f k - (∑ k, f k) / 1024)) / 1024 + e := by
    have : 0 ≤ ∑ k, (f k - (∑ k, f k) / 1024) * (f k - (∑ k, f k) / 1024) := Finset.sum_nonneg fun k _ => mul_self_nonneg _
    positivity
  rw [Ideal.rsqrt_coe, if_neg pos.le.not_gt, if_neg pos.ne']
  exact ⟨_, (EReal.coe_mul _ _).symm⟩

/-- All of a token's parameters are numbers. -/
structure Params.Finite (p : Params) : Prop where
  pg : ∀ k, Row.Finite (p.pg k)
  pb : ∀ k, Row.Finite (p.pb k)
  cg : ∀ k, Row.Finite (p.cg k)
  tg : ∀ k, Row.Finite (p.tg k)
  sg : ∀ k, Row.Finite (p.sg k)
  w : ∀ i k, Row.Finite (p.w i k)
  sh : ∀ k, Row.Finite (p.sh k)
  bi : ∀ k, Row.Finite (p.bi k)
  v : ∀ i k, Row.Finite (p.v i k)
  vb : ∀ k, Row.Finite (p.vb k)

theorem side_finite {a b c e : R} (ha : ∀ k, Finite (a k)) (hb : ∀ k, Finite (b k)) (hc : ∀ k, Finite (c k))
    (he : ∀ k, Finite (e k)) (k : Fin 4096) : Finite (side a b c e k) := by
  unfold side
  split
  · exact ha _
  · split
    · exact hb _
    · split
      · exact hc _
      · exact he _

/-- With numbers throughout, the token's result is the same by either norm. -/
theorem out_eq {x : R} {p : Params} (hx : ∀ k, Finite (x k)) (hp : p.Finite) : out normSq x p = out normDist x p := by
  have nx := norm_finite hx
  have ff : ∀ k, Finite (first normDist x p k) := fun k => ((nx k).mul (hp.pg k)).add (hp.pb k)
  have e1 : first normSq x p = first normDist x p := by
    unfold first
    rw [norm_eq hx]
  have e2 : pre normSq x p = pre normDist x p := by
    unfold pre
    rw [e1, norm_eq hx, norm_eq ff]
  have fp : ∀ k, Finite (pre normDist x p k) := fun d =>
    ((Finite.sum fun k => (side_finite (fun k => (norm_finite ff k).mul (hp.cg k)) (fun k => (nx k).mul (hp.tg k))
      (fun k => (nx k).mul (hp.sg k)) hx k).mul (hp.w k d)).add (hp.sh d)).add (hp.bi d)
  have fs : ∀ k, Finite (second normDist x p k) := fun d =>
    (Finite.sum fun k => ((fp k).mul (fp k).logistic).mul (hp.v k d)).add (hp.vb d)
  have e3 : second normSq x p = second normDist x p := by
    unfold second
    rw [e2]
  unfold out
  rw [e3, norm_eq fs]

end Cert.Row
end
-- ==== Proof.Inputs.lean ====
/- What the precondition says of one element of each argument: ids in range, numbers finite. -/
module

public import proofs.«01_k».proof.Proof.Moments
public import proofs.«01_k».proof.Proof.Gen.Pre_finite_inputs_ids_in_range
public import Idealize.ShloMosaic.Lib.Pointwise
public import Idealize.ShloMosaic.Lib.ReduceAll
public import Idealize.ShloMosaic.Lib.WordCmp

@[expose] public section

set_option maxRecDepth 16384

noncomputable section

namespace Cert.Inputs

open Idealize.ShloMosaic Cert.Row Cert.Pre_finite_inputs_ids_in_range

instance : Subsingleton (Shape.Idx S_) := ⟨fun a b => funext fun k => k.elim0⟩

/-- A word between zero and a bound, both compared signed, is the word of a number below the bound. -/
theorem id_of_all {S : Shape} {axes : List (Fin S.rank)} (x lo hi : IVec S 32) (one : IVec S_ 1) (h : S.ReducesTo axes S_)
    (u : 0 < S_.numel) (j : Shape.Idx S_) (e : Host.reduce IntOp.andi (andi (cmpi .sge x lo) (cmpi .slt x hi)) one h u j = 1#1)
    (i : S.Idx) (n : ℕ) (hn : n ≤ 1000) (hl : lo i = 0#32) (hh : hi i = BitVec.ofNat 32 n) :
    ∃ a : Fin n, x i = BitVec.ofNat 32 a.val := by
  have both := Host.reduce_andi_all _ _ h u j e i
  change IntOp.andi (IntOp.cmpi .sge (x i) (lo i)) (IntOp.cmpi .slt (x i) (hi i)) = 1#1 at both
  obtain ⟨a, b⟩ := IntOp.andi_eq_one.mp both
  rw [hl, WordCmp.cmpi_sge_eq] at a
  rw [hh, WordCmp.cmpi_slt_eq] at b
  have a' : (0#32 : BitVec 32).toInt ≤ (x i).toInt := by
    by_contra hc
    rw [decide_eq_false hc] at a
    exact absurd a (by decide)
  have b' : (x i).toInt < (BitVec.ofNat 32 n).toInt := by
    by_contra hc
    rw [decide_eq_false hc] at b
    exact absurd b (by decide)
  have e0 : (0#32 : BitVec 32).toInt = 0 := rfl
  have en : (BitVec.ofNat 32 n).toInt = n := by
    rw [BitVec.toInt_eq_toNat_of_lt] <;> simp only [BitVec.toNat_ofNat] <;> omega
  rw [e0] at a'
  rw [en] at b'
  have l := (x i).isLt
  have hx : (x i).toInt = (x i).toNat := by
    rw [BitVec.toInt_eq_toNat_cond] at a' b' ⊢
    split at a' <;> split <;> omega
  refine ⟨⟨(x i).toNat, by omega⟩, ?_⟩
  rw [BitVec.ofNat_toNat, BitVec.setWidth_eq]

/-- A number whose absolute value is below infinity is finite. -/
theorem finite_of_all {S : Shape} {φ : FTy} {axes : List (Fin S.rank)} (x top : FVec Ideal S φ) (one : IVec S_ 1) (h : S.ReducesTo axes S_)
    (u : 0 < S_.numel) (j : Shape.Idx S_) (e : Host.reduce IntOp.andi (cmpf .olt (Host.absf x) top) one h u j = 1#1)
    (i : S.Idx) (ht : top i = (⊤ : EReal)) : Finite (x i) := by
  have lt := Host.reduce_andi_all _ _ h u j e i
  change Ideal.cmp .olt (max (x i : EReal) (-x i)) (top i) = 1#1 at lt
  rw [ht] at lt
  have lt' : max (x i : EReal) (-x i) < ⊤ := by
    by_contra hc
    change BitVec.ofBool (decide (max (x i : EReal) (-x i) < ⊤)) = 1#1 at lt
    rw [decide_eq_false hc] at lt
    exact absurd lt (by decide)
  refine Finite.of_ne (fun hx => ?_) (fun hx => ?_)
  · rw [hx] at lt'
    exact absurd lt' (by simp)
  · rw [hx] at lt'
    exact absurd lt' (by simp)

theorem top_f32 : Ideal.ofBits .f32 0x7F800000#32 = ⊤ := by
  simp [Ideal.ofBits, Ideal.ieee]

theorem top_bf16 : Ideal.ofBits .bf16 0x7F80#16 = ⊤ := by
  simp [Ideal.ofBits, Ideal.ieee]

variable (x0 : FVec Ideal S4x2048x1024 .f32) (x1 x2 x3 x4 : IVec S4x2048 32) (x5 : FVec Ideal S1024x2048 .bf16) (x6 : FVec Ideal S24x1024 .bf16)
  (x7 : FVec Ideal S4096x1024 .bf16) (x8 : FVec Ideal S24x1024 .f32) (x9 : FVec Ideal S1024x1024 .bf16) (x10 : FVec Ideal S4x1x1024 .f32)
  (x11 : FVec Ideal S16x1024 .f32)

/-- The arguments the kernel is asked about. -/
structure Good : Prop where
  a : ∀ i, ∃ n : Fin 1000, x1 i = BitVec.ofNat 32 n.val
  c : ∀ i, ∃ n : Fin 5, x2 i = BitVec.ofNat 32 n.val
  t : ∀ i, ∃ n : Fin 5, x3 i = BitVec.ofNat 32 n.val
  s : ∀ i, ∃ n : Fin 3, x4 i = BitVec.ofNat 32 n.val
  x : ∀ i, Finite (x0 i)
  pw : ∀ i, Finite (x5 i)
  small : ∀ i, Finite (x6 i)
  w : ∀ i, Finite (x7 i)
  proj : ∀ i, Finite (x8 i)
  v : ∀ i, Finite (x9 i)
  bias : ∀ i, Finite (x10 i)
  aux : ∀ k, Finite (x11 (ix2 13 k))

theorem good (h : ∀ j, fn (F := Ideal) x0 x1 x2 x3 x4 x5 x6 x7 x8 x9 x10 x11 j = 1#1) : Good x0 x1 x2 x3 x4 x5 x6 x7 x8 x9 x10 x11 := by
  have e := h (Shape.Idx.first Facts.h_S_)
  dsimp only [fn, fn_part1, fn_part2, fn_part3, fn_part4] at e
  simp only [andi_apply] at e
  obtain ⟨⟨⟨⟨⟨⟨⟨⟨⟨⟨⟨e1, e2⟩, e3⟩, e4⟩, e0⟩, e5⟩, e6⟩, e7⟩, e8⟩, e9⟩, e10⟩, e11⟩ : _ := by
    simpa only [IntOp.andi_eq_one] using e
  refine ⟨fun i => id_of_all _ _ _ _ _ _ _ e1 i 1000 (by omega) ?_ ?_, fun i => id_of_all _ _ _ _ _ _ _ e2 i 5 (by omega) ?_ ?_,
    fun i => id_of_all _ _ _ _ _ _ _ e3 i 5 (by omega) ?_ ?_, fun i => id_of_all _ _ _ _ _ _ _ e4 i 3 (by omega) ?_ ?_,
    fun i => finite_of_all _ _ _ _ _ _ e0 i ?_, fun i => finite_of_all _ _ _ _ _ _ e5 i ?_, fun i => finite_of_all _ _ _ _ _ _ e6 i ?_,
    fun i => finite_of_all _ _ _ _ _ _ e7 i ?_, fun i => finite_of_all _ _ _ _ _ _ e8 i ?_, fun i => finite_of_all _ _ _ _ _ _ e9 i ?_,
    fun i => finite_of_all _ _ _ _ _ _ e10 i ?_, fun k => ?_⟩
  rotate_right
  · have f := finite_of_all _ _ _ _ _ _ e11 (ix1 k) top_f32
    have r : ∀ g, shapeCast S1024 (extractStridedSlice S1x1024 ![13, 0] x11 g) Facts.shapeCasts_S1x1024_S1024 (ix1 k) = x11 (ix2 13 k) := by
      intro g
      pointwise []
    rwa [r] at f
  all_goals first | rfl | exact top_f32 | exact top_bf16

end Cert.Inputs
end
-- ==== Proof.Array.lean ====
/- The kernel's output array, whole: it is the reference's array. -/
module

public import proofs.«01_k».proof.Proof.Blocks
public import proofs.«01_k».proof.Proof.BlockRow
public import proofs.«01_k».proof.Proof.ReferenceRow
public import proofs.«01_k».proof.Proof.Moments
public import proofs.«01_k».proof.Proof.Inputs

@[expose] public section

set_option maxRecDepth 16384

noncomputable section

namespace Cert.KernelIdeal.Whole

open Idealize.ShloMosaic Idealize.ShloMosaic.TcCoe Cert.KernelIdeal Cert.KernelIdeal.Gen Cert.KernelIdeal.Blocks Cert.Row

variable (m : (ℓ : Loc nD τ sig) → Buf (Elt Ideal) ℓ) (c : Dev nD)

/-- The reference's array at the kernel's arguments. -/
abbrev target : S4x2048x1024.Idx → EReal :=
  ReferenceIdeal.Read.val_main_v203 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The arguments on a device are as the precondition asks. -/
abbrev GoodAt : Prop :=
  Inputs.Good (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

variable {m c}

/-- What one grid point computes at a row and channel is what the reference has at that token and channel. -/
theorem point (h : GoodAt m c) (t : Fin cfg0.N) (r : Fin 512) (d : Fin 1024) :
    out0_9 (F := Ideal) (iblk m c 0 t) (iblk m c 1 t) (iblk m c 2 t) (iblk m c 3 t) (iblk m c 4 t) (iblk m c 5 t) (iblk m c 6 t)
        (iblk m c 7 t) (iblk m c 8 t) (ix3 0 r d)
      = target m c (ix3 (bat t) (tok t r) d) := by
  obtain ⟨a, ha⟩ := h.a (ix2 (bat t) (tok t r))
  obtain ⟨k, hk⟩ := h.c (ix2 (bat t) (tok t r))
  obtain ⟨i, hi⟩ := h.t (ix2 (bat t) (tok t r))
  obtain ⟨s, hs⟩ := h.s (ix2 (bat t) (tok t r))
  refine (Block.out_at _ _ _ _ _ _ _ _ _ r d ⟨a.val, by omega⟩ ⟨k.val, by omega⟩ ⟨i.val, by omega⟩ ⟨s.val, by omega⟩
    ((ids_at m c t 0 r).trans ((stack_at m c _ _ 0 r).trans ha)) ((ids_at m c t 1 r).trans ((stack_at m c _ _ 1 r).trans hk))
    ((ids_at m c t 2 r).trans ((stack_at m c _ _ 2 r).trans hi)) ((ids_at m c t 3 r).trans ((stack_at m c _ _ 3 r).trans hs))).trans ?_
  refine Eq.trans ?_ (ReferenceIdeal.Rows.result_at _ _ _ _ _ _ _ _ _ _ _ _ (bat t) (tok t r) ⟨a.val, by omega⟩ ⟨k.val, by omega⟩
    ⟨i.val, by omega⟩ ⟨s.val, by omega⟩ ha hk hi hs d).symm
  simp only [x_at, pw_at, small_at, w_at, proj_at, v_at, bias_at, aux_at]
  refine congrFun (out_eq (fun k => h.x _) ?_) d
  exact ⟨fun _ => (h.pw _).add Finite.one, fun _ => h.pw _, fun _ => (h.small _).add Finite.one, fun _ => (h.small _).add Finite.one,
    fun _ => (h.small _).add Finite.one, fun _ _ => h.w _, fun _ => ((h.proj _).add (h.proj _)).add (h.proj _), fun _ => h.bias _,
    fun _ _ => h.v _, fun _ => h.aux _⟩

/-- The kernel's output array after the run is the reference's array. -/
theorem array (h : GoodAt m c) : (dats m 0 c).arrAt 9 cfg0.N = target m c := by
  refine (dats m 0 c).arrAt_eq_of_covers 9 _ (by decide +kernel) fun t hf y => ?_
  blk_simp
  rw [after0_9]
  refine (congrArg _ (show y = ix3 (0 : Fin 1) (y 1 : Fin 512) (y 2 : Fin 1024) by blk_ext [])).trans
    ((point h t (y 1) (y 2)).trans (congrArg (target m c) ?_))
  blk_ext [idx t]

end Cert.KernelIdeal.Whole
end
-- ==== Proof.Tables.lean ====
/- The call that lays out the tables: its three arrays are the reference's. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

namespace Cert.Tables

open Idealize.ShloMosaic Cert.Kernel2Ideal Cert.Kernel2Ideal.Gen Cert.Kernel2Ideal.Value

variable (a0 a1 : Vec Ideal S1000x1024 .f32) (a2 : Vec Ideal S1024x1024 .f32) (a3 a4 : Vec Ideal S5x1024 .f32) (a5 : Vec Ideal S3x1024 .f32)

/-- The second layer's weights are as given. -/
theorem weights : G7 a0 a1 a2 a3 a4 a5 = Reference2Ideal.Read.val_main_v19 (F := Ideal) a2 := rfl

/-- The three small tables, each less one and padded to eight rows. -/
theorem small : G8 a0 a1 a2 a3 a4 a5 = Reference2Ideal.Read.val_main_v20 (F := Ideal) a3 a4 a5 := rfl

/-- A place of the large table in its left half. -/
theorem left (i j : Fin 1024) : (ix2 i ⟨j.val, by omega⟩ : S1024x2048.Idx) = r0_1.emb (ix2 i j) := by
  blk_ext [r0_1]

/-- A place of the large table in its right half. -/
theorem right (i j : Fin 1024) : (ix2 i ⟨1024 + j.val, by omega⟩ : S1024x2048.Idx) = r0_2.emb (ix2 i j) := by
  blk_ext [r0_2]

/-- The left half is not in the right one. -/
theorem left_not (i j : Fin 1024) : (ix2 i ⟨j.val, by omega⟩ : S1024x2048.Idx) ∉ r0_2.set := by
  rw [show r0_2 = Rect.unit (s := S1024x2048) ![0, 1024] S1024x1024.size inb_S1024x2048_S1024x1024_0_1024 from rfl, Rect.mem_set_unit]
  intro h
  have h1 : 1024 ≤ j.val := (h 1).1
  omega

/-- The left half: the scales less one, over zeros. -/
theorem large_left (i j : Fin 1024) : G6 a0 a1 a2 a3 a4 a5 (ix2 i ⟨j.val, by omega⟩ : S1024x2048.Idx)
    = Reference2Ideal.Read.val_main_v18 (F := Ideal) a0 a1 (ix2 i ⟨j.val, by omega⟩) := by
  refine (View.canon_cons_of_not_mem (⟨r0_2, k0_pay3 a1⟩ : View.Piece (Elt Ideal) S1024x2048 .bf16) [⟨r0_1, k0_pay2 a0⟩] (left_not i j)).trans ?_
  refine (congrArg _ (left i j)).trans ((View.canon_cons_emb _ _ _ _).trans ?_)
  by_cases hi : i.val < 1000
  all_goals
    pointwise [k0_pay2, k0_pay1, Reference2Ideal.Read.val_main_v18, Reference2Ideal.Read.val_main_v4, Reference2Ideal.Read.val_main_v2, Reference2Ideal.Read.val_main_v1, Reference2Ideal.Read.val_main_v0, Reference2Ideal.Read.val_main_v3,
      Reference2Ideal.Read.val_main_cst, Reference2Ideal.Read.val_main_cst_0, hi]

/-- The right half: the shifts, over zeros. -/
theorem large_right (i j : Fin 1024) : G6 a0 a1 a2 a3 a4 a5 (ix2 i ⟨1024 + j.val, by omega⟩ : S1024x2048.Idx)
    = Reference2Ideal.Read.val_main_v18 (F := Ideal) a0 a1 (ix2 i ⟨1024 + j.val, by omega⟩) := by
  refine (congrArg _ (right i j)).trans ((View.canon_cons_emb _ _ _ _).trans ?_)
  by_cases hi : i.val < 1000
  all_goals
    pointwise [k0_pay3, k0_pay1, Reference2Ideal.Read.val_main_v18, Reference2Ideal.Read.val_main_v4, Reference2Ideal.Read.val_main_v2, Reference2Ideal.Read.val_main_v1, Reference2Ideal.Read.val_main_v0, Reference2Ideal.Read.val_main_v3,
      Reference2Ideal.Read.val_main_cst, Reference2Ideal.Read.val_main_cst_0, hi]

/-- The large table, whole. -/
theorem large : G6 a0 a1 a2 a3 a4 a5 = Reference2Ideal.Read.val_main_v18 (F := Ideal) a0 a1 := by
  funext y
  have h1 : (y 1).val < 2048 := (y 1).isLt
  by_cases h : (y 1).val < 1024
  · rw [show y = (ix2 (y 0 : Fin 1024) ⟨(⟨(y 1).val, h⟩ : Fin 1024).val, by omega⟩ : S1024x2048.Idx) by blk_ext []]
    exact large_left ..
  · rw [show y = (ix2 (y 0 : Fin 1024) ⟨1024 + (⟨(y 1).val - 1024, by omega⟩ : Fin 1024).val, by omega⟩ : S1024x2048.Idx) by blk_ext []]
    exact large_right ..

end Cert.Tables
end
-- ==== Proof.lean ====
/- The claim put together: the frames of the kernel and of its ideal reading, the reference's own run, and the equation of
   the two output arrays. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs_ids_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.WeightsClaim
public import proofs.«01_k».proof.Proof.Array
public import proofs.«01_k».proof.Proof.Tables
public import Idealize.ShloMosaic.Lib.Claim
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Kernel2.Facts := Cert.Kernel2.Gen.facts
local instance : Cert.Kernel2Ideal.Facts := Cert.Kernel2Ideal.Gen.facts
local instance : Cert.Reference2Ideal.Facts := Cert.Reference2Ideal.Gen.facts
local instance : Cert.Kernel3.Facts := Cert.Kernel3.Gen.facts
local instance : Cert.Kernel3Ideal.Facts := Cert.Kernel3Ideal.Gen.facts
local instance : Cert.Reference3Ideal.Facts := Cert.Reference3Ideal.Gen.facts
local instance : Cert.Pre_finite_inputs_ids_in_range.Facts := Cert.Pre_finite_inputs_ids_in_range.Gen.facts

/-- The reference runs, and leaves its arguments and the counters alone. -/
theorem reference_frame : Cert.quiescent_ReferenceIdeal := by
  intro m g _
  run_from Cert.ReferenceIdeal.Value.run m g
  · exact fun _ => by simp only [and_self]
  · exact sem_eq_zero_of_no_sems (sig := Cert.ReferenceIdeal.sig) rfl _

/-- Under the precondition the two programs leave the same array. -/
theorem algebraic : Cert.algebraic_KernelIdeal_ReferenceIdeal_pre_finite_inputs_ids_in_range := by
  pair_intro
  · run_from Cert.KernelIdeal.Value.run_blocks m g
  · run_from Cert.ReferenceIdeal.Value.run m' g'
    obtain ⟨e0, e1, e2, e3, e4, e5, e6, e7, e8, e9, e10, e11⟩ := hagree c
    rw [← e11]
    refine (Cert.ReferenceIdeal.Read.val_main_v203_eq (StableHlo.launchContents m' c)).trans ?_
    refine Eq.trans ?_ (Cert.KernelIdeal.Whole.array (m := m) (c := c) (Cert.Inputs.good _ _ _ _ _ _ _ _ _ _ _ _ (congrFun (hpre c)))).symm
    show Cert.ReferenceIdeal.Read.val_main_v203 (F := Ideal) (m' ((c.tc : Thread _ Cert.ReferenceIdeal.τ).loc Cert.ReferenceIdeal.main_arg0))
      (m' (c.tc.loc Cert.ReferenceIdeal.main_arg1)) (m' (c.tc.loc Cert.ReferenceIdeal.main_arg2)) (m' (c.tc.loc Cert.ReferenceIdeal.main_arg3))
      (m' (c.tc.loc Cert.ReferenceIdeal.main_arg4)) (m' (c.tc.loc Cert.ReferenceIdeal.main_arg5)) (m' (c.tc.loc Cert.ReferenceIdeal.main_arg6))
      (m' (c.tc.loc Cert.ReferenceIdeal.main_arg7)) (m' (c.tc.loc Cert.ReferenceIdeal.main_arg8)) (m' (c.tc.loc Cert.ReferenceIdeal.main_arg9))
      (m' (c.tc.loc Cert.ReferenceIdeal.main_arg10)) (m' (c.tc.loc Cert.ReferenceIdeal.main_arg11)) = _
    rw [e0, e1, e2, e3, e4, e5, e6, e7, e8, e9, e10, e11]

/-- The reference of the tables' call runs, and leaves its arguments and the counters alone. -/
theorem reference2_frame : Cert.quiescent_Reference2Ideal := by
  intro m g _
  run_from Cert.Reference2Ideal.Value.run m g
  · exact fun _ => by simp only [and_self]
  · exact sem_eq_zero_of_no_sems (sig := Cert.Reference2Ideal.sig) rfl _

/-- The tables' call and its reference leave the same three arrays. -/
theorem algebraic2 : Cert.algebraic_Kernel2Ideal_Reference2Ideal := by
  pair_intro
  · run_from Cert.Kernel2Ideal.Value.run_blocks m g
  · run_from Cert.Reference2Ideal.Value.run m' g'
    all_goals obtain ⟨e0, e1, e2, e3, e4, e5⟩ := hagree c
    · exact (Cert.Tables.large _ _ _ _ _ _).symm.trans (Cert.Kernel2Ideal.Value.final6 m c).symm
    · exact (Cert.Tables.weights _ _ _ _ _ _).symm.trans (Cert.Kernel2Ideal.Value.final7 m c).symm
    · rw [e3, e4, e5]
      exact (Cert.Tables.small _ _ _ _ _ _).symm.trans (Cert.Kernel2Ideal.Value.final8 m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite_inputs_ids_in_range.Gen.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, reference2_frame,
    Cert.Weights.kernel_frame, fun m g _ => Cert.Weights.frame m g, Cert.Weights.reference_frame,
    trivial, algebraic, trivial, algebraic2, trivial, Cert.Weights.algebraic⟩

end Cert.Proof

end
